-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 2048]⟩ ⟨3, ![4, 1024, 8192]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_within_clip [hKernelIdeal : Cert.KernelIdeal.Facts] [hClippedIdeal : Cert.ClippedIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 1024, 2048]⟩ : Shape).Idx, (Layout.block ⟨3, ![4, 1024, 2048]⟩ ⟨3, ![4, 1024, 8192]⟩ 2 4 c ((Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨3, ![4, 1024, 2048]⟩ : Shape).Idx → _) i = 1#1 → r.2.mem ((c.tc : Thread Cert.KernelIdeal.nD Cert.KernelIdeal.τ).loc Cert.KernelIdeal.main_v1) i = (Layout.block ⟨3, ![4, 1024, 2048]⟩ ⟨3, ![4, 1024, 8192]⟩ 2 4 c v0 : (⟨3, ![4, 1024, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨3, ![4, 1024, 8192]⟩ : Shape).Idx, (Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v10) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within_clip (hKernelIdeal := hKernelIdeal) (hClippedIdeal := hClippedIdeal) (hOn_within_clip := hOn_within_clip)
-- ==== On_within_clip.lean ====
abbrev S4096x4096 : Shape := ⟨2, ![4096, 4096]⟩
abbrev S4096x8192 : Shape := ⟨2, ![4096, 8192]⟩
abbrev S_ : Shape := ⟨0, ![]⟩
abbrev S4x1024x8192 : Shape := ⟨3, ![4, 1024, 8192]⟩

class Facts : Prop where
  bcast_S_S4096x8192 : S_.BroadcastsInDim S4096x8192 (![] : Fin 0 → Fin S4096x8192.rank)
  shapeCasts_S4096x8192_S4x1024x8192 : S4096x8192.ShapeCasts S4x1024x8192
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4x1024x8192 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0xC2700000#32
  let main_v1 : FVec F S4096x8192 .f32 := broadcastInDim S4096x8192 ![] bcast_S_S4096x8192 main_cst
  let main_v2 : IVec S4096x8192 1 := cmpf .oge main_v0 main_v1
  let main_cst_0 : FVec F S_ .f32 := constant S_ .f32 0x42700000#32
  let main_v3 : FVec F S4096x8192 .f32 := broadcastInDim S4096x8192 ![] bcast_S_S4096x8192 main_cst_0
  let main_v4 : IVec S4096x8192 1 := cmpf .ole main_v0 main_v3
  let main_v5 : IVec S4096x8192 1 := andi main_v2 main_v4
  let main_v6 : IVec S4x1024x8192 1 := shapeCast S4x1024x8192 main_v5 shapeCasts_S4096x8192_S4x1024x8192
  main_v6
-- ==== Kernel.lean ====
abbrev S1024x4096 : Shape := ⟨2, ![1024, 4096]⟩
abbrev S4096x8192 : Shape := ⟨2, ![4096, 8192]⟩
abbrev S4x1024x2048 : Shape := ⟨3, ![4, 1024, 2048]⟩
abbrev S2x1024x1024 : Shape := ⟨3, ![2, 1024, 1024]⟩
abbrev S2x1024x512 : Shape := ⟨3, ![2, 1024, 512]⟩
abbrev S4x1024x512 : Shape := ⟨3, ![4, 1024, 512]⟩
abbrev S3x1024x2048 : Shape := ⟨3, ![3, 1024, 2048]⟩
abbrev S3x4 : Shape := ⟨2, ![3, 4]⟩
abbrev S4 : Shape := ⟨1, ![4]⟩
abbrev S2 : Shape := ⟨1, ![2]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x1024x1024 : Shape := ⟨3, ![1, 1024, 1024]⟩
abbrev S1024x1024 : Shape := ⟨2, ![1024, 1024]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S4x1024x2048, .f32⟩
  | .local _ .vmem, ⟨0, _⟩ => ⟨S2x1024x1024, .f32⟩
  | .local _ .vmem, ⟨1, _⟩ => ⟨S2x1024x512, .f32⟩
  | .local _ .vmem, ⟨2, _⟩ => ⟨S1024x4096, .bf16⟩
  | .local _ .vmem, ⟨3, _⟩ => ⟨S4x1024x512, .f32⟩
  | .local _ .vmem, ⟨4, _⟩ => ⟨S3x1024x2048, .bf16⟩
  | .local _ .vmem, ⟨5, _⟩ => ⟨S3x1024x2048, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) (c0_i32_7 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let c0_i32_2 : BitVec 32 := 0#32
  let v5 : BitVec 1 := Scalar.cmpi .eq c4_i32_1 c0_i32_2
  let c1_i32_3 : BitVec 32 := 1#32
  let v6 : BitVec 32 := Scalar.select v5 c1_i32_3 c4_i32_1
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c2048_i32 : BitVec 32 := 2048#32
  let v15 : BitVec 32 := Scalar.muli v14 c2048_i32
  let v16 : BitVec 32 := Scalar.addi v15 c0_i32_7
  ![0, v16.toNat]
def k0_off2 (d0 : Dev nD) (c0_i32_14 : BitVec 32) (c0_i32_22 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v22 : BitVec 32 := Scalar.addi v2 c1_i32_13
  let v23 : BitVec 32 := Scalar.addi v22 c0_i32_14
  let c4_i32_15 : BitVec 32 := 4#32
  let c0_i32_16 : BitVec 32 := 0#32
  let v24 : BitVec 1 := Scalar.cmpi .eq c4_i32_15 c0_i32_16
  let c1_i32_17 : BitVec 32 := 1#32
  let v25 : BitVec 32 := Scalar.select v24 c1_i32_17 c4_i32_15
  let v26 : BitVec 32 := Scalar.remsi v23 v25
  let c0_i32_19 : BitVec 32 := 0#32
  let v28 : BitVec 1 := Scalar.cmpi .slt v26 c0_i32_19
  let c0_i32_20 : BitVec 32 := 0#32
  let v29 : BitVec 1 := Scalar.cmpi .slt v25 c0_i32_20
  let v30 : BitVec 1 := Scalar.xori v28 v29
  let c0_i32_18 : BitVec 32 := 0#32
  let v27 : BitVec 1 := Scalar.cmpi .ne v26 c0_i32_18
  let v31 : BitVec 1 := Scalar.andi v30 v27
  let v32 : BitVec 32 := Scalar.addi v26 v25
  let v33 : BitVec 32 := Scalar.select v31 v32 v26
  let c2048_i32_21 : BitVec 32 := 2048#32
  let v34 : BitVec 32 := Scalar.muli v33 c2048_i32_21
  let v35 : BitVec 32 := Scalar.addi v34 c0_i32_22
  ![1024, v35.toNat]
def k0_dev1 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v52 : BitVec 32 := Scalar.addi v2 c1_i32_39
  let c4_i32_40 : BitVec 32 := 4#32
  let c0_i32_41 : BitVec 32 := 0#32
  let v53 : BitVec 1 := Scalar.cmpi .eq c4_i32_40 c0_i32_41
  let c1_i32_42 : BitVec 32 := 1#32
  let v54 : BitVec 32 := Scalar.select v53 c1_i32_42 c4_i32_40
  let v55 : BitVec 32 := Scalar.remsi v52 v54
  let c0_i32_44 : BitVec 32 := 0#32
  let v57 : BitVec 1 := Scalar.cmpi .slt v55 c0_i32_44
  let c0_i32_45 : BitVec 32 := 0#32
  let v58 : BitVec 1 := Scalar.cmpi .slt v54 c0_i32_45
  let v59 : BitVec 1 := Scalar.xori v57 v58
  let c0_i32_43 : BitVec 32 := 0#32
  let v56 : BitVec 1 := Scalar.cmpi .ne v55 c0_i32_43
  let v60 : BitVec 1 := Scalar.andi v59 v56
  let v61 : BitVec 32 := Scalar.addi v55 v54
  let v62 : BitVec 32 := Scalar.select v60 v61 v55
  let c1_i32_47 : BitVec 32 := 1#32
  let v63 : BitVec 32 := Scalar.muli v62 c1_i32_47
  let v64 : BitVec 32 := Scalar.addi c0_i32_48 v63
  v64.toNat
def k0_dev2 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v65 : BitVec 32 := Scalar.addi v2 c2_i32
  let c4_i32_49 : BitVec 32 := 4#32
  let c0_i32_50 : BitVec 32 := 0#32
  let v66 : BitVec 1 := Scalar.cmpi .eq c4_i32_49 c0_i32_50
  let c1_i32_51 : BitVec 32 := 1#32
  let v67 : BitVec 32 := Scalar.select v66 c1_i32_51 c4_i32_49
  let v68 : BitVec 32 := Scalar.remsi v65 v67
  let c0_i32_53 : BitVec 32 := 0#32
  let v70 : BitVec 1 := Scalar.cmpi .slt v68 c0_i32_53
  let c0_i32_54 : BitVec 32 := 0#32
  let v71 : BitVec 1 := Scalar.cmpi .slt v67 c0_i32_54
  let v72 : BitVec 1 := Scalar.xori v70 v71
  let c0_i32_52 : BitVec 32 := 0#32
  let v69 : BitVec 1 := Scalar.cmpi .ne v68 c0_i32_52
  let v73 : BitVec 1 := Scalar.andi v72 v69
  let v74 : BitVec 32 := Scalar.addi v68 v67
  let v75 : BitVec 32 := Scalar.select v73 v74 v68
  let c1_i32_56 : BitVec 32 := 1#32
  let v76 : BitVec 32 := Scalar.muli v75 c1_i32_56
  let v77 : BitVec 32 := Scalar.addi c0_i32_57 v76
  v77.toNat
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v78 : BitVec 32 := Scalar.addi v2 c3_i32
  let c4_i32_58 : BitVec 32 := 4#32
  let c0_i32_59 : BitVec 32 := 0#32
  let v79 : BitVec 1 := Scalar.cmpi .eq c4_i32_58 c0_i32_59
  let c1_i32_60 : BitVec 32 := 1#32
  let v80 : BitVec 32 := Scalar.select v79 c1_i32_60 c4_i32_58
  let v81 : BitVec 32 := Scalar.remsi v78 v80
  let c0_i32_62 : BitVec 32 := 0#32
  let v83 : BitVec 1 := Scalar.cmpi .slt v81 c0_i32_62
  let c0_i32_63 : BitVec 32 := 0#32
  let v84 : BitVec 1 := Scalar.cmpi .slt v80 c0_i32_63
  let v85 : BitVec 1 := Scalar.xori v83 v84
  let c0_i32_61 : BitVec 32 := 0#32
  let v82 : BitVec 1 := Scalar.cmpi .ne v81 c0_i32_61
  let v86 : BitVec 1 := Scalar.andi v85 v82
  let v87 : BitVec 32 := Scalar.addi v81 v80
  let v88 : BitVec 32 := Scalar.select v86 v87 v81
  let c1_i32_65 : BitVec 32 := 1#32
  let v89 : BitVec 32 := Scalar.muli v88 c1_i32_65
  let v90 : BitVec 32 := Scalar.addi c0_i32_66 v89
  v90.toNat
def k0_off3 (d0 : Dev nD) (c0_i32_134 : BitVec 32) (c0_i32_142 : BitVec 32) : Fin 2 → Nat :=
  let c2048_i32_147 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_133 : BitVec 32 := 1#32
  let v164 : BitVec 32 := Scalar.addi v2 c1_i32_133
  let v165 : BitVec 32 := Scalar.addi v164 c0_i32_134
  let c4_i32_135 : BitVec 32 := 4#32
  let c0_i32_136 : BitVec 32 := 0#32
  let v166 : BitVec 1 := Scalar.cmpi .eq c4_i32_135 c0_i32_136
  let c1_i32_137 : BitVec 32 := 1#32
  let v167 : BitVec 32 := Scalar.select v166 c1_i32_137 c4_i32_135
  let v168 : BitVec 32 := Scalar.remsi v165 v167
  let c0_i32_139 : BitVec 32 := 0#32
  let v170 : BitVec 1 := Scalar.cmpi .slt v168 c0_i32_139
  let c0_i32_140 : BitVec 32 := 0#32
  let v171 : BitVec 1 := Scalar.cmpi .slt v167 c0_i32_140
  let v172 : BitVec 1 := Scalar.xori v170 v171
  let c0_i32_138 : BitVec 32 := 0#32
  let v169 : BitVec 1 := Scalar.cmpi .ne v168 c0_i32_138
  let v173 : BitVec 1 := Scalar.andi v172 v169
  let v174 : BitVec 32 := Scalar.addi v168 v167
  let v175 : BitVec 32 := Scalar.select v173 v174 v168
  let c2048_i32_141 : BitVec 32 := 2048#32
  let v176 : BitVec 32 := Scalar.muli v175 c2048_i32_141
  let v177 : BitVec 32 := Scalar.addi v176 c0_i32_142
  ![2048, v177.toNat]
def k0_off4 (d0 : Dev nD) (c0_i32_169 : BitVec 32) (c0_i32_177 : BitVec 32) : Fin 2 → Nat :=
  let c3072_i32_182 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_168 : BitVec 32 := 1#32
  let v207 : BitVec 32 := Scalar.addi v2 c1_i32_168
  let v208 : BitVec 32 := Scalar.addi v207 c0_i32_169
  let c4_i32_170 : BitVec 32 := 4#32
  let c0_i32_171 : BitVec 32 := 0#32
  let v209 : BitVec 1 := Scalar.cmpi .eq c4_i32_170 c0_i32_171
  let c1_i32_172 : BitVec 32 := 1#32
  let v210 : BitVec 32 := Scalar.select v209 c1_i32_172 c4_i32_170
  let v211 : BitVec 32 := Scalar.remsi v208 v210
  let c0_i32_174 : BitVec 32 := 0#32
  let v213 : BitVec 1 := Scalar.cmpi .slt v211 c0_i32_174
  let c0_i32_175 : BitVec 32 := 0#32
  let v214 : BitVec 1 := Scalar.cmpi .slt v210 c0_i32_175
  let v215 : BitVec 1 := Scalar.xori v213 v214
  let c0_i32_173 : BitVec 32 := 0#32
  let v212 : BitVec 1 := Scalar.cmpi .ne v211 c0_i32_173
  let v216 : BitVec 1 := Scalar.andi v215 v212
  let v217 : BitVec 32 := Scalar.addi v211 v210
  let v218 : BitVec 32 := Scalar.select v216 v217 v211
  let c2048_i32_176 : BitVec 32 := 2048#32
  let v219 : BitVec 32 := Scalar.muli v218 c2048_i32_176
  let v220 : BitVec 32 := Scalar.addi v219 c0_i32_177
  ![3072, v220.toNat]
def k0_dev4 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_261 : BitVec 32 := 1#32
  let v326 : BitVec 32 := Scalar.addi v2 c1_i32_261
  let c4_i32_262 : BitVec 32 := 4#32
  let c0_i32_263 : BitVec 32 := 0#32
  let v327 : BitVec 1 := Scalar.cmpi .eq c4_i32_262 c0_i32_263
  let c1_i32_264 : BitVec 32 := 1#32
  let v328 : BitVec 32 := Scalar.select v327 c1_i32_264 c4_i32_262
  let v329 : BitVec 32 := Scalar.remsi v326 v328
  let c0_i32_266 : BitVec 32 := 0#32
  let v331 : BitVec 1 := Scalar.cmpi .slt v329 c0_i32_266
  let c0_i32_267 : BitVec 32 := 0#32
  let v332 : BitVec 1 := Scalar.cmpi .slt v328 c0_i32_267
  let v333 : BitVec 1 := Scalar.xori v331 v332
  let c0_i32_265 : BitVec 32 := 0#32
  let v330 : BitVec 1 := Scalar.cmpi .ne v329 c0_i32_265
  let v334 : BitVec 1 := Scalar.andi v333 v330
  let v335 : BitVec 32 := Scalar.addi v329 v328
  let v336 : BitVec 32 := Scalar.select v334 v335 v329
  let c1_i32_274 : BitVec 32 := 1#32
  let v337 : BitVec 32 := Scalar.muli v336 c1_i32_274
  let v338 : BitVec 32 := Scalar.addi c0_i32_275 v337
  v338.toNat
def k0_dev5 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_426 : BitVec 32 := 1#32
  let v528 : BitVec 32 := Scalar.addi v2 c1_i32_426
  let c4_i32_427 : BitVec 32 := 4#32
  let c0_i32_428 : BitVec 32 := 0#32
  let v529 : BitVec 1 := Scalar.cmpi .eq c4_i32_427 c0_i32_428
  let c1_i32_429 : BitVec 32 := 1#32
  let v530 : BitVec 32 := Scalar.select v529 c1_i32_429 c4_i32_427
  let v531 : BitVec 32 := Scalar.remsi v528 v530
  let c0_i32_431 : BitVec 32 := 0#32
  let v533 : BitVec 1 := Scalar.cmpi .slt v531 c0_i32_431
  let c0_i32_432 : BitVec 32 := 0#32
  let v534 : BitVec 1 := Scalar.cmpi .slt v530 c0_i32_432
  let v535 : BitVec 1 := Scalar.xori v533 v534
  let c0_i32_430 : BitVec 32 := 0#32
  let v532 : BitVec 1 := Scalar.cmpi .ne v531 c0_i32_430
  let v536 : BitVec 1 := Scalar.andi v535 v532
  let v537 : BitVec 32 := Scalar.addi v531 v530
  let v538 : BitVec 32 := Scalar.select v536 v537 v531
  let c1_i32_439 : BitVec 32 := 1#32
  let v539 : BitVec 32 := Scalar.muli v538 c1_i32_439
  let v540 : BitVec 32 := Scalar.addi c0_i32_440 v539
  v540.toNat
def k0_dev6 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_591 : BitVec 32 := 1#32
  let v730 : BitVec 32 := Scalar.addi v2 c1_i32_591
  let c4_i32_592 : BitVec 32 := 4#32
  let c0_i32_593 : BitVec 32 := 0#32
  let v731 : BitVec 1 := Scalar.cmpi .eq c4_i32_592 c0_i32_593
  let c1_i32_594 : BitVec 32 := 1#32
  let v732 : BitVec 32 := Scalar.select v731 c1_i32_594 c4_i32_592
  let v733 : BitVec 32 := Scalar.remsi v730 v732
  let c0_i32_596 : BitVec 32 := 0#32
  let v735 : BitVec 1 := Scalar.cmpi .slt v733 c0_i32_596
  let c0_i32_597 : BitVec 32 := 0#32
  let v736 : BitVec 1 := Scalar.cmpi .slt v732 c0_i32_597
  let v737 : BitVec 1 := Scalar.xori v735 v736
  let c0_i32_595 : BitVec 32 := 0#32
  let v734 : BitVec 1 := Scalar.cmpi .ne v733 c0_i32_595
  let v738 : BitVec 1 := Scalar.andi v737 v734
  let v739 : BitVec 32 := Scalar.addi v733 v732
  let v740 : BitVec 32 := Scalar.select v738 v739 v733
  let c1_i32_604 : BitVec 32 := 1#32
  let v741 : BitVec 32 := Scalar.muli v740 c1_i32_604
  let v742 : BitVec 32 := Scalar.addi c0_i32_605 v741
  v742.toNat
def k0_dev7 (d0 : Dev nD) : Nat :=
  let c0_i32_770 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_756 : BitVec 32 := 1#32
  let v932 : BitVec 32 := Scalar.addi v2 c1_i32_756
  let c4_i32_757 : BitVec 32 := 4#32
  let c0_i32_758 : BitVec 32 := 0#32
  let v933 : BitVec 1 := Scalar.cmpi .eq c4_i32_757 c0_i32_758
  let c1_i32_759 : BitVec 32 := 1#32
  let v934 : BitVec 32 := Scalar.select v933 c1_i32_759 c4_i32_757
  let v935 : BitVec 32 := Scalar.remsi v932 v934
  let c0_i32_761 : BitVec 32 := 0#32
  let v937 : BitVec 1 := Scalar.cmpi .slt v935 c0_i32_761
  let c0_i32_762 : BitVec 32 := 0#32
  let v938 : BitVec 1 := Scalar.cmpi .slt v934 c0_i32_762
  let v939 : BitVec 1 := Scalar.xori v937 v938
  let c0_i32_760 : BitVec 32 := 0#32
  let v936 : BitVec 1 := Scalar.cmpi .ne v935 c0_i32_760
  let v940 : BitVec 1 := Scalar.andi v939 v936
  let v941 : BitVec 32 := Scalar.addi v935 v934
  let v942 : BitVec 32 := Scalar.select v940 v941 v935
  let c1_i32_769 : BitVec 32 := 1#32
  let v943 : BitVec 32 := Scalar.muli v942 c1_i32_769
  let v944 : BitVec 32 := Scalar.addi c0_i32_770 v943
  v944.toNat
def k0_dev8 (d0 : Dev nD) : Nat :=
  let c0_i32_936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_922 : BitVec 32 := 2#32
  let v1134 : BitVec 32 := Scalar.addi v2 c2_i32_922
  let c4_i32_923 : BitVec 32 := 4#32
  let c0_i32_924 : BitVec 32 := 0#32
  let v1135 : BitVec 1 := Scalar.cmpi .eq c4_i32_923 c0_i32_924
  let c1_i32_925 : BitVec 32 := 1#32
  let v1136 : BitVec 32 := Scalar.select v1135 c1_i32_925 c4_i32_923
  let v1137 : BitVec 32 := Scalar.remsi v1134 v1136
  let c0_i32_927 : BitVec 32 := 0#32
  let v1139 : BitVec 1 := Scalar.cmpi .slt v1137 c0_i32_927
  let c0_i32_928 : BitVec 32 := 0#32
  let v1140 : BitVec 1 := Scalar.cmpi .slt v1136 c0_i32_928
  let v1141 : BitVec 1 := Scalar.xori v1139 v1140
  let c0_i32_926 : BitVec 32 := 0#32
  let v1138 : BitVec 1 := Scalar.cmpi .ne v1137 c0_i32_926
  let v1142 : BitVec 1 := Scalar.andi v1141 v1138
  let v1143 : BitVec 32 := Scalar.addi v1137 v1136
  let v1144 : BitVec 32 := Scalar.select v1142 v1143 v1137
  let c1_i32_935 : BitVec 32 := 1#32
  let v1145 : BitVec 32 := Scalar.muli v1144 c1_i32_935
  let v1146 : BitVec 32 := Scalar.addi c0_i32_936 v1145
  v1146.toNat
def k0_dev9 (d0 : Dev nD) : Nat :=
  let c0_i32_1102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1088 : BitVec 32 := 2#32
  let v1336 : BitVec 32 := Scalar.addi v2 c2_i32_1088
  let c4_i32_1089 : BitVec 32 := 4#32
  let c0_i32_1090 : BitVec 32 := 0#32
  let v1337 : BitVec 1 := Scalar.cmpi .eq c4_i32_1089 c0_i32_1090
  let c1_i32_1091 : BitVec 32 := 1#32
  let v1338 : BitVec 32 := Scalar.select v1337 c1_i32_1091 c4_i32_1089
  let v1339 : BitVec 32 := Scalar.remsi v1336 v1338
  let c0_i32_1093 : BitVec 32 := 0#32
  let v1341 : BitVec 1 := Scalar.cmpi .slt v1339 c0_i32_1093
  let c0_i32_1094 : BitVec 32 := 0#32
  let v1342 : BitVec 1 := Scalar.cmpi .slt v1338 c0_i32_1094
  let v1343 : BitVec 1 := Scalar.xori v1341 v1342
  let c0_i32_1092 : BitVec 32 := 0#32
  let v1340 : BitVec 1 := Scalar.cmpi .ne v1339 c0_i32_1092
  let v1344 : BitVec 1 := Scalar.andi v1343 v1340
  let v1345 : BitVec 32 := Scalar.addi v1339 v1338
  let v1346 : BitVec 32 := Scalar.select v1344 v1345 v1339
  let c1_i32_1101 : BitVec 32 := 1#32
  let v1347 : BitVec 32 := Scalar.muli v1346 c1_i32_1101
  let v1348 : BitVec 32 := Scalar.addi c0_i32_1102 v1347
  v1348.toNat
def k0_dev10 (d0 : Dev nD) : Nat :=
  let c0_i32_1268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1254 : BitVec 32 := 2#32
  let v1538 : BitVec 32 := Scalar.addi v2 c2_i32_1254
  let c4_i32_1255 : BitVec 32 := 4#32
  let c0_i32_1256 : BitVec 32 := 0#32
  let v1539 : BitVec 1 := Scalar.cmpi .eq c4_i32_1255 c0_i32_1256
  let c1_i32_1257 : BitVec 32 := 1#32
  let v1540 : BitVec 32 := Scalar.select v1539 c1_i32_1257 c4_i32_1255
  let v1541 : BitVec 32 := Scalar.remsi v1538 v1540
  let c0_i32_1259 : BitVec 32 := 0#32
  let v1543 : BitVec 1 := Scalar.cmpi .slt v1541 c0_i32_1259
  let c0_i32_1260 : BitVec 32 := 0#32
  let v1544 : BitVec 1 := Scalar.cmpi .slt v1540 c0_i32_1260
  let v1545 : BitVec 1 := Scalar.xori v1543 v1544
  let c0_i32_1258 : BitVec 32 := 0#32
  let v1542 : BitVec 1 := Scalar.cmpi .ne v1541 c0_i32_1258
  let v1546 : BitVec 1 := Scalar.andi v1545 v1542
  let v1547 : BitVec 32 := Scalar.addi v1541 v1540
  let v1548 : BitVec 32 := Scalar.select v1546 v1547 v1541
  let c1_i32_1267 : BitVec 32 := 1#32
  let v1549 : BitVec 32 := Scalar.muli v1548 c1_i32_1267
  let v1550 : BitVec 32 := Scalar.addi c0_i32_1268 v1549
  v1550.toNat
def k0_dev11 (d0 : Dev nD) : Nat :=
  let c0_i32_1434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1420 : BitVec 32 := 2#32
  let v1740 : BitVec 32 := Scalar.addi v2 c2_i32_1420
  let c4_i32_1421 : BitVec 32 := 4#32
  let c0_i32_1422 : BitVec 32 := 0#32
  let v1741 : BitVec 1 := Scalar.cmpi .eq c4_i32_1421 c0_i32_1422
  let c1_i32_1423 : BitVec 32 := 1#32
  let v1742 : BitVec 32 := Scalar.select v1741 c1_i32_1423 c4_i32_1421
  let v1743 : BitVec 32 := Scalar.remsi v1740 v1742
  let c0_i32_1425 : BitVec 32 := 0#32
  let v1745 : BitVec 1 := Scalar.cmpi .slt v1743 c0_i32_1425
  let c0_i32_1426 : BitVec 32 := 0#32
  let v1746 : BitVec 1 := Scalar.cmpi .slt v1742 c0_i32_1426
  let v1747 : BitVec 1 := Scalar.xori v1745 v1746
  let c0_i32_1424 : BitVec 32 := 0#32
  let v1744 : BitVec 1 := Scalar.cmpi .ne v1743 c0_i32_1424
  let v1748 : BitVec 1 := Scalar.andi v1747 v1744
  let v1749 : BitVec 32 := Scalar.addi v1743 v1742
  let v1750 : BitVec 32 := Scalar.select v1748 v1749 v1743
  let c1_i32_1433 : BitVec 32 := 1#32
  let v1751 : BitVec 32 := Scalar.muli v1750 c1_i32_1433
  let v1752 : BitVec 32 := Scalar.addi c0_i32_1434 v1751
  v1752.toNat
def k0_dev12 (d0 : Dev nD) : Nat :=
  let c0_i32_1600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1586 : BitVec 32 := 3#32
  let v1942 : BitVec 32 := Scalar.addi v2 c3_i32_1586
  let c4_i32_1587 : BitVec 32 := 4#32
  let c0_i32_1588 : BitVec 32 := 0#32
  let v1943 : BitVec 1 := Scalar.cmpi .eq c4_i32_1587 c0_i32_1588
  let c1_i32_1589 : BitVec 32 := 1#32
  let v1944 : BitVec 32 := Scalar.select v1943 c1_i32_1589 c4_i32_1587
  let v1945 : BitVec 32 := Scalar.remsi v1942 v1944
  let c0_i32_1591 : BitVec 32 := 0#32
  let v1947 : BitVec 1 := Scalar.cmpi .slt v1945 c0_i32_1591
  let c0_i32_1592 : BitVec 32 := 0#32
  let v1948 : BitVec 1 := Scalar.cmpi .slt v1944 c0_i32_1592
  let v1949 : BitVec 1 := Scalar.xori v1947 v1948
  let c0_i32_1590 : BitVec 32 := 0#32
  let v1946 : BitVec 1 := Scalar.cmpi .ne v1945 c0_i32_1590
  let v1950 : BitVec 1 := Scalar.andi v1949 v1946
  let v1951 : BitVec 32 := Scalar.addi v1945 v1944
  let v1952 : BitVec 32 := Scalar.select v1950 v1951 v1945
  let c1_i32_1599 : BitVec 32 := 1#32
  let v1953 : BitVec 32 := Scalar.muli v1952 c1_i32_1599
  let v1954 : BitVec 32 := Scalar.addi c0_i32_1600 v1953
  v1954.toNat
def k0_dev13 (d0 : Dev nD) : Nat :=
  let c0_i32_1766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1752 : BitVec 32 := 3#32
  let v2144 : BitVec 32 := Scalar.addi v2 c3_i32_1752
  let c4_i32_1753 : BitVec 32 := 4#32
  let c0_i32_1754 : BitVec 32 := 0#32
  let v2145 : BitVec 1 := Scalar.cmpi .eq c4_i32_1753 c0_i32_1754
  let c1_i32_1755 : BitVec 32 := 1#32
  let v2146 : BitVec 32 := Scalar.select v2145 c1_i32_1755 c4_i32_1753
  let v2147 : BitVec 32 := Scalar.remsi v2144 v2146
  let c0_i32_1757 : BitVec 32 := 0#32
  let v2149 : BitVec 1 := Scalar.cmpi .slt v2147 c0_i32_1757
  let c0_i32_1758 : BitVec 32 := 0#32
  let v2150 : BitVec 1 := Scalar.cmpi .slt v2146 c0_i32_1758
  let v2151 : BitVec 1 := Scalar.xori v2149 v2150
  let c0_i32_1756 : BitVec 32 := 0#32
  let v2148 : BitVec 1 := Scalar.cmpi .ne v2147 c0_i32_1756
  let v2152 : BitVec 1 := Scalar.andi v2151 v2148
  let v2153 : BitVec 32 := Scalar.addi v2147 v2146
  let v2154 : BitVec 32 := Scalar.select v2152 v2153 v2147
  let c1_i32_1765 : BitVec 32 := 1#32
  let v2155 : BitVec 32 := Scalar.muli v2154 c1_i32_1765
  let v2156 : BitVec 32 := Scalar.addi c0_i32_1766 v2155
  v2156.toNat
def k0_dev14 (d0 : Dev nD) : Nat :=
  let c0_i32_1932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1918 : BitVec 32 := 3#32
  let v2346 : BitVec 32 := Scalar.addi v2 c3_i32_1918
  let c4_i32_1919 : BitVec 32 := 4#32
  let c0_i32_1920 : BitVec 32 := 0#32
  let v2347 : BitVec 1 := Scalar.cmpi .eq c4_i32_1919 c0_i32_1920
  let c1_i32_1921 : BitVec 32 := 1#32
  let v2348 : BitVec 32 := Scalar.select v2347 c1_i32_1921 c4_i32_1919
  let v2349 : BitVec 32 := Scalar.remsi v2346 v2348
  let c0_i32_1923 : BitVec 32 := 0#32
  let v2351 : BitVec 1 := Scalar.cmpi .slt v2349 c0_i32_1923
  let c0_i32_1924 : BitVec 32 := 0#32
  let v2352 : BitVec 1 := Scalar.cmpi .slt v2348 c0_i32_1924
  let v2353 : BitVec 1 := Scalar.xori v2351 v2352
  let c0_i32_1922 : BitVec 32 := 0#32
  let v2350 : BitVec 1 := Scalar.cmpi .ne v2349 c0_i32_1922
  let v2354 : BitVec 1 := Scalar.andi v2353 v2350
  let v2355 : BitVec 32 := Scalar.addi v2349 v2348
  let v2356 : BitVec 32 := Scalar.select v2354 v2355 v2349
  let c1_i32_1931 : BitVec 32 := 1#32
  let v2357 : BitVec 32 := Scalar.muli v2356 c1_i32_1931
  let v2358 : BitVec 32 := Scalar.addi c0_i32_1932 v2357
  v2358.toNat
def k0_dev15 (d0 : Dev nD) : Nat :=
  let c0_i32_2098 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2084 : BitVec 32 := 3#32
  let v2548 : BitVec 32 := Scalar.addi v2 c3_i32_2084
  let c4_i32_2085 : BitVec 32 := 4#32
  let c0_i32_2086 : BitVec 32 := 0#32
  let v2549 : BitVec 1 := Scalar.cmpi .eq c4_i32_2085 c0_i32_2086
  let c1_i32_2087 : BitVec 32 := 1#32
  let v2550 : BitVec 32 := Scalar.select v2549 c1_i32_2087 c4_i32_2085
  let v2551 : BitVec 32 := Scalar.remsi v2548 v2550
  let c0_i32_2089 : BitVec 32 := 0#32
  let v2553 : BitVec 1 := Scalar.cmpi .slt v2551 c0_i32_2089
  let c0_i32_2090 : BitVec 32 := 0#32
  let v2554 : BitVec 1 := Scalar.cmpi .slt v2550 c0_i32_2090
  let v2555 : BitVec 1 := Scalar.xori v2553 v2554
  let c0_i32_2088 : BitVec 32 := 0#32
  let v2552 : BitVec 1 := Scalar.cmpi .ne v2551 c0_i32_2088
  let v2556 : BitVec 1 := Scalar.andi v2555 v2552
  let v2557 : BitVec 32 := Scalar.addi v2551 v2550
  let v2558 : BitVec 32 := Scalar.select v2556 v2557 v2551
  let c1_i32_2097 : BitVec 32 := 1#32
  let v2559 : BitVec 32 := Scalar.muli v2558 c1_i32_2097
  let v2560 : BitVec 32 := Scalar.addi c0_i32_2098 v2559
  v2560.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_2252 : BitVec 32 := 0#32
  let c0_i32_2253 : BitVec 32 := 0#32
  ![v2.toNat, 0, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_2405 : BitVec 32 := 0#32
  let c512_i32_2406 : BitVec 32 := 512#32
  ![v2.toNat, 0, 512]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_2564 : BitVec 32 := 0#32
  let c1024_i32_2565 : BitVec 32 := 1024#32
  ![v2.toNat, 0, 1024]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_2693 : BitVec 32 := 0#32
  let c1536_i32_2694 : BitVec 32 := 1536#32
  ![v2.toNat, 0, 1536]
def k0_off9 (d0 : Dev nD) (c1_i32_2785 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3375 : BitVec 32 := Scalar.subi v2 c1_i32_2785
  let c4_i32_2786 : BitVec 32 := 4#32
  let c0_i32_2787 : BitVec 32 := 0#32
  let v3376 : BitVec 1 := Scalar.cmpi .eq c4_i32_2786 c0_i32_2787
  let c1_i32_2788 : BitVec 32 := 1#32
  let v3377 : BitVec 32 := Scalar.select v3376 c1_i32_2788 c4_i32_2786
  let v3378 : BitVec 32 := Scalar.remsi v3375 v3377
  let c0_i32_2790 : BitVec 32 := 0#32
  let v3380 : BitVec 1 := Scalar.cmpi .slt v3378 c0_i32_2790
  let c0_i32_2791 : BitVec 32 := 0#32
  let v3381 : BitVec 1 := Scalar.cmpi .slt v3377 c0_i32_2791
  let v3382 : BitVec 1 := Scalar.xori v3380 v3381
  let c0_i32_2789 : BitVec 32 := 0#32
  let v3379 : BitVec 1 := Scalar.cmpi .ne v3378 c0_i32_2789
  let v3383 : BitVec 1 := Scalar.andi v3382 v3379
  let v3384 : BitVec 32 := Scalar.addi v3378 v3377
  let v3385 : BitVec 32 := Scalar.select v3383 v3384 v3378
  let c0_i32_2800 : BitVec 32 := 0#32
  let c0_i32_2801 : BitVec 32 := 0#32
  ![v3385.toNat, 0, 0]
def k0_off10 (d0 : Dev nD) (c1_i32_2785 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3375 : BitVec 32 := Scalar.subi v2 c1_i32_2785
  let c4_i32_2786 : BitVec 32 := 4#32
  let c0_i32_2787 : BitVec 32 := 0#32
  let v3376 : BitVec 1 := Scalar.cmpi .eq c4_i32_2786 c0_i32_2787
  let c1_i32_2788 : BitVec 32 := 1#32
  let v3377 : BitVec 32 := Scalar.select v3376 c1_i32_2788 c4_i32_2786
  let v3378 : BitVec 32 := Scalar.remsi v3375 v3377
  let c0_i32_2790 : BitVec 32 := 0#32
  let v3380 : BitVec 1 := Scalar.cmpi .slt v3378 c0_i32_2790
  let c0_i32_2791 : BitVec 32 := 0#32
  let v3381 : BitVec 1 := Scalar.cmpi .slt v3377 c0_i32_2791
  let v3382 : BitVec 1 := Scalar.xori v3380 v3381
  let c0_i32_2789 : BitVec 32 := 0#32
  let v3379 : BitVec 1 := Scalar.cmpi .ne v3378 c0_i32_2789
  let v3383 : BitVec 1 := Scalar.andi v3382 v3379
  let v3384 : BitVec 32 := Scalar.addi v3378 v3377
  let v3385 : BitVec 32 := Scalar.select v3383 v3384 v3378
  let c0_i32_2812 : BitVec 32 := 0#32
  let c1024_i32_2813 : BitVec 32 := 1024#32
  ![v3385.toNat, 0, 1024]
-- ==== ReferenceIdeal.lean ====
abbrev S4096x4096 : Shape := ⟨2, ![4096, 4096]⟩
abbrev S4096x8192 : Shape := ⟨2, ![4096, 8192]⟩
abbrev S_ : Shape := ⟨0, ![]⟩
abbrev S4x1024x8192 : Shape := ⟨3, ![4, 1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4x1024x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S_ : Shape := ⟨0, ![]⟩
abbrev S4x1024x8192 : Shape := ⟨3, ![4, 1024, 8192]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S4x1024x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Shape.lean ====
/- The kernel's body written once more, with the twelve sent blocks, the four own blocks and the three received
   parts as instances of one program each, and the proof that the printed body is this program. -/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F]

/-! ### The buffers -/

abbrev xM : Memref sig .tc .hbm S1024x4096 .f32 := Memref.whole main_arg0
abbrev wM : Memref sig .tc .hbm S4096x8192 .f32 := Memref.whole main_arg1
abbrev oM : Memref sig .tc .hbm S4x1024x2048 .f32 := Memref.whole main_v1
abbrev stM : Memref sig .tc .vmem S2x1024x1024 .f32 := Memref.whole cc0_scratch0
abbrev obM : Memref sig .tc .vmem S2x1024x512 .f32 := Memref.whole cc0_scratch1
abbrev xbM : Memref sig .tc .vmem S1024x4096 .bf16 := Memref.whole cc0_scratch2
abbrev wbM : Memref sig .tc .vmem S4x1024x512 .f32 := Memref.whole cc0_scratch3
abbrev sbM : Memref sig .tc .vmem S3x1024x2048 .bf16 := Memref.whole cc0_scratch4
abbrev rbM : Memref sig .tc .vmem S3x1024x2048 .bf16 := Memref.whole cc0_scratch5

/-! ### Rectangles inside their arrays -/

theorem inb_x (q : Fin 4) : ∀ a, (![0, 1024 * q.val] : Fin 2 → Nat) a + S1024x1024.size a ≤ S1024x4096.size a := by
  revert q; decide
theorem inb_st (h : Fin 2) : ∀ a, (![h.val, 0, 0] : Fin 3 → Nat) a + S1x1024x1024.size a ≤ S2x1024x1024.size a := by
  revert h; decide
theorem inb_ob (h : Fin 2) : ∀ a, (![h.val, 0, 0] : Fin 3 → Nat) a + S1x1024x512.size a ≤ S2x1024x512.size a := by
  revert h; decide
theorem inb_wb (k : Fin 4) : ∀ a, (![k.val, 0, 0] : Fin 3 → Nat) a + S1x1024x512.size a ≤ S4x1024x512.size a := by
  revert k; decide
theorem inb_sb (r : Fin 3) (b : Fin 4) :
    ∀ a, (![r.val, 0, 512 * b.val] : Fin 3 → Nat) a + S1x1024x512.size a ≤ S3x1024x2048.size a := by
  revert r b; decide
theorem inb_rh (r : Fin 3) (h : Fin 2) :
    ∀ a, (![r.val, 0, 1024 * h.val] : Fin 3 → Nat) a + S1x1024x1024.size a ≤ S3x1024x2048.size a := by
  revert r h; decide
theorem inb_s4 (k : Fin 4) : ∀ a, (![k.val] : Fin 1 → Nat) a + S1.size a ≤ S4.size a := by revert k; decide
theorem inb_s2 (k : Fin 2) : ∀ a, (![k.val] : Fin 1 → Nat) a + S1.size a ≤ S2.size a := by revert k; decide
theorem inb_s34 (r : Fin 3) (b : Fin 4) : ∀ a, (![r.val, b.val] : Fin 2 → Nat) a + S1x1.size a ≤ S3x4.size a := by
  revert r b; decide

theorem packed_x (q : Fin 4) :
    (Rect.unit (s := S1024x4096) ![0, 1024 * q.val] S1024x1024.size (inb_x q)).PackedRows (EltTy.packing .bf16) := by
  revert q; decide
theorem packed_sb (r : Fin 3) (b : Fin 4) :
    (Rect.unit (s := S3x1024x2048) ![r.val, 0, 512 * b.val] S1x1024x512.size (inb_sb r b)).PackedRows
      (EltTy.packing .bf16) := by
  revert r b; decide
theorem words_sb (r : Fin 3) (b : Fin 4) :
    (Rect.unit (s := S3x1024x2048) ![r.val, 0, 512 * b.val] S1x1024x512.size (inb_sb r b)).WholeWords
      (EltTy.packing .bf16) := (packed_sb r b).wholeWords

/-! ### The semaphores -/

abbrev wSem (k : Fin 4) : DmaSem sig :=
  ((cc0_scratch8.slice (Rect.unit (s := S4) ![k.val] S1.size (inb_s4 k))).squeeze S_ squeezes_S1_S_).sem
abbrev oSem (k : Fin 2) : DmaSem sig :=
  ((cc0_scratch9.slice (Rect.unit (s := S2) ![k.val] S1.size (inb_s2 k))).squeeze S_ squeezes_S1_S_).sem
abbrev tSem (k : Fin 2) : DmaSem sig :=
  ((cc0_scratch10.slice (Rect.unit (s := S2) ![k.val] S1.size (inb_s2 k))).squeeze S_ squeezes_S1_S_).sem
abbrev sSem (r : Fin 3) (b : Fin 4) : DmaSem sig :=
  ((cc0_scratch6.slice (Rect.unit (s := S3x4) ![r.val, b.val] S1x1.size (inb_s34 r b))).squeeze S_ squeezes_S1x1_S_).sem
abbrev rSem (r : Fin 3) (b : Fin 4) : DmaSem sig :=
  ((cc0_scratch7.slice (Rect.unit (s := S3x4) ![r.val, b.val] S1x1.size (inb_s34 r b))).squeeze S_ squeezes_S1x1_S_).sem
abbrev bar : Sem sig := (SemArray.scalar (sig.barrier 0 rfl) : Sems sig S_).sem

/-! ### Windows and slots -/

/-- The offsets of the window of `w` that holds rows `1024 k …` and the columns of block `b` of the part that device
    `d` computes for the device `c + 1` places ahead of it. -/
def wOff (d : Dev nD) (c b k : Fin 4) : Fin 2 → Nat :=
  match k with
  | 0 => k0_off1 d (BitVec.ofNat 32 c.val) (BitVec.ofNat 32 (512 * b.val))
  | 1 => k0_off2 d (BitVec.ofNat 32 c.val) (BitVec.ofNat 32 (512 * b.val))
  | 2 => k0_off3 d (BitVec.ofNat 32 c.val) (BitVec.ofNat 32 (512 * b.val))
  | 3 => k0_off4 d (BitVec.ofNat 32 c.val) (BitVec.ofNat 32 (512 * b.val))

theorem wOff_inb (d : Dev nD) (c b k : Fin 4) : ∀ a, (wOff d c b k) a + S1024x512.size a ≤ S4096x8192.size a := by
  match k with
  | 0 => exact k0_off1_inb d c b
  | 1 => exact k0_off2_inb d c b
  | 2 => exact k0_off3_inb d c b
  | 3 => exact k0_off4_inb d c b

/-- The offsets of own block `b` in the result. -/
def oOff (d : Dev nD) (b : Fin 4) : Fin 3 → Nat :=
  match b with
  | 0 => k0_off5 d
  | 1 => k0_off6 d
  | 2 => k0_off7 d
  | 3 => k0_off8 d

theorem oOff_inb (d : Dev nD) (b : Fin 4) : ∀ a, (oOff d b) a + S1x1024x512.size a ≤ S4x1024x2048.size a := by
  match b with
  | 0 => exact k0_off5_inb d
  | 1 => exact k0_off6_inb d
  | 2 => exact k0_off7_inb d
  | 3 => exact k0_off8_inb d

/-- The offsets of half `h` of received part `r` in the result. -/
def fOff (d : Dev nD) (r : Fin 3) (h : Fin 2) : Fin 3 → Nat :=
  match h with
  | 0 => k0_off9 d (BitVec.ofNat 32 (1 + r.val))
  | 1 => k0_off10 d (BitVec.ofNat 32 (1 + r.val))

theorem fOff_inb (d : Dev nD) (r : Fin 3) (h : Fin 2) :
    ∀ a, (fOff d r h) a + S1x1024x1024.size a ≤ S4x1024x2048.size a := by
  match h with
  | 0 => exact k0_off9_inb d r
  | 1 => exact k0_off10_inb d r

/-- The device that the sends of part `r` address. -/
def sendTo (d : Dev nD) (r : Fin 3) : Dev nD :=
  match r with
  | 0 => ⟨k0_dev4 d, k0_dev4_lt d⟩
  | 1 => ⟨k0_dev8 d, k0_dev8_lt d⟩
  | 2 => ⟨k0_dev12 d, k0_dev12_lt d⟩

/-- The device that barrier signal `j` addresses. -/
def signalTo (d : Dev nD) (j : Fin 3) : Dev nD :=
  match j with
  | 0 => ⟨k0_dev1 d, k0_dev1_lt d⟩
  | 1 => ⟨k0_dev2 d, k0_dev2_lt d⟩
  | 2 => ⟨k0_dev3 d, k0_dev3_lt d⟩

abbrev xRect (q : Fin 4) : Rect S1024x4096 := Rect.unit (s := S1024x4096) ![0, 1024 * q.val] S1024x1024.size (inb_x q)
abbrev wRect (d : Dev nD) (c b k : Fin 4) : Rect S4096x8192 :=
  Rect.unit (s := S4096x8192) (wOff d c b k) S1024x512.size (wOff_inb d c b k)
abbrev stRect (h : Fin 2) : Rect S2x1024x1024 :=
  Rect.unit (s := S2x1024x1024) ![h.val, 0, 0] S1x1024x1024.size (inb_st h)
abbrev obRect (h : Fin 2) : Rect S2x1024x512 :=
  Rect.unit (s := S2x1024x512) ![h.val, 0, 0] S1x1024x512.size (inb_ob h)
abbrev wbRect (k : Fin 4) : Rect S4x1024x512 :=
  Rect.unit (s := S4x1024x512) ![k.val, 0, 0] S1x1024x512.size (inb_wb k)
abbrev sbRect (r : Fin 3) (b : Fin 4) : Rect S3x1024x2048 :=
  Rect.unit (s := S3x1024x2048) ![r.val, 0, 512 * b.val] S1x1024x512.size (inb_sb r b)
abbrev rhRect (r : Fin 3) (h : Fin 2) : Rect S3x1024x2048 :=
  Rect.unit (s := S3x1024x2048) ![r.val, 0, 1024 * h.val] S1x1024x1024.size (inb_rh r h)
abbrev oRect (d : Dev nD) (b : Fin 4) : Rect S4x1024x2048 :=
  Rect.unit (s := S4x1024x2048) (oOff d b) S1x1024x512.size (oOff_inb d b)
abbrev fRect (d : Dev nD) (r : Fin 3) (h : Fin 2) : Rect S4x1024x2048 :=
  Rect.unit (s := S4x1024x2048) (fOff d r h) S1x1024x1024.size (fOff_inb d r h)

abbrev xWin (q : Fin 4) : Memref sig .tc .hbm S1024x1024 .f32 := xM.slice (xRect q) (fun _ => rfl)
abbrev wWin (d : Dev nD) (c b k : Fin 4) : Memref sig .tc .hbm S1024x512 .f32 := wM.slice (wRect d c b k) (fun _ => rfl)
abbrev stSl (h : Fin 2) : Memref sig .tc .vmem S1024x1024 .f32 :=
  (stM.slice (stRect h) (fun _ => rfl)).squeeze S1024x1024 squeezes_S1x1024x1024_S1024x1024
abbrev obSl (h : Fin 2) : Memref sig .tc .vmem S1024x512 .f32 :=
  (obM.slice (obRect h) (fun _ => rfl)).squeeze S1024x512 squeezes_S1x1024x512_S1024x512
abbrev wbSl (k : Fin 4) : Memref sig .tc .vmem S1024x512 .f32 :=
  (wbM.slice (wbRect k) (fun _ => rfl)).squeeze S1024x512 squeezes_S1x1024x512_S1024x512
abbrev sbSl (r : Fin 3) (b : Fin 4) : Memref sig .tc .vmem S1024x512 .bf16 :=
  (sbM.slice (sbRect r b) (fun _ => rfl)).squeeze S1024x512 squeezes_S1x1024x512_S1024x512
abbrev rbSl (r : Fin 3) (b : Fin 4) : Memref sig .tc .vmem S1024x512 .bf16 :=
  (rbM.slice (sbRect r b) (fun _ => rfl)).squeeze S1024x512 squeezes_S1x1024x512_S1024x512
abbrev oWin (d : Dev nD) (b : Fin 4) : Memref sig .tc .hbm S1024x512 .f32 :=
  (oM.slice (oRect d b) (fun _ => rfl)).squeeze S1024x512 squeezes_S1x1024x512_S1024x512
abbrev fWin (d : Dev nD) (r : Fin 3) (h : Fin 2) : Memref sig .tc .hbm S1024x1024 .f32 :=
  (oM.slice (fRect d r h) (fun _ => rfl)).squeeze S1024x1024 squeezes_S1x1024x1024_S1024x1024

/-! ### The pure values -/

/-- One quarter of the device's rows, rounded to bf16. -/
def xPay (v : Vec F S1x1024x1024 .f32) : FVec F S1024x1024 .bf16 :=
  shapeCast S1024x1024 (truncf .bf16 (shapeCast S1024x1024 v shapeCasts_S1x1024x1024_S1024x1024) bitsLt_bf16_f32)
    shapeCasts_S1024x1024_S1024x1024

/-- The product of one quarter of the contraction. -/
def dotPay (xv : Vec F S1024x1024 .bf16) (wv : Vec F S1x1024x512 .f32) : FVec F S1024x512 .f32 :=
  matmul dot_S1024x1024_S1024x512_S1024x512_1_0_0_1_n_n none xv
    (truncf .bf16 (shapeCast S1024x512 wv shapeCasts_S1x1024x512_S1024x512) bitsLt_bf16_f32)
    (constant S1024x512 .f32 0x00000000#32)

/-- `y · logistic y`. -/
def siluPay (y : FVec F S1024x512 .f32) : FVec F S1024x512 .f32 := mulf y (logistic y)

/-- The sum of the four quarters' products. -/
def sumPay (x0 x1 x2 x3 : Vec F S1024x1024 .bf16) (w0 w1 w2 w3 : Vec F S1x1024x512 .f32) : FVec F S1024x512 .f32 :=
  addf (addf (addf (dotPay x0 w0) (dotPay x1 w1)) (dotPay x2 w2)) (dotPay x3 w3)

/-- A block as it is stored for sending: rounded to bf16. -/
def sendPay (y : FVec F S1024x512 .f32) : FVec F S1x1024x512 .bf16 :=
  shapeCast S1x1024x512 (truncf .bf16 (siluPay y) bitsLt_bf16_f32) shapeCasts_S1024x512_S1x1024x512

/-- A block as the device stores it for itself. -/
def ownPay (y : FVec F S1024x512 .f32) : FVec F S1x1024x512 .f32 :=
  shapeCast S1x1024x512 (siluPay y) shapeCasts_S1024x512_S1x1024x512

/-- A received half widened to f32. -/
def drainPay (v : Vec F S1x1024x1024 .bf16) : FVec F S1x1024x1024 .f32 :=
  shapeCast S1x1024x1024 (extf .f32 (shapeCast S1024x1024 v shapeCasts_S1x1024x1024_S1024x1024) bitsLt_bf16_f32)
    shapeCasts_S1024x1024_S1x1024x1024

/-! ### The program -/

abbrev P (F : FTy → Type) (α : Type) := Prog (TpuEff nD τ sig (Elt F) Λ₀ .tc) α

abbrev startW (d : Dev nD) (c b k : Fin 4) : P F PUnit :=
  Prog.lift (.enqueueDma (wWin d c b k) (.here (wbSl k)) (.dma (wSem k)) (View.wordExact_bits rfl)
    ((View.wordExact_bits rfl).reshape _ _) ⟨Or.inl rfl, trivial⟩)
abbrev waitW (d : Dev nD) (c b k : Fin 4) : P F PUnit :=
  Prog.lift (.waitDma2 (wSem k) (wWin d c b k) (wbSl k) (View.wordExact_bits rfl)
    ((View.wordExact_bits rfl).reshape _ _))
abbrev startX (q : Fin 4) (h : Fin 2) : P F PUnit :=
  Prog.lift (.enqueueDma (xWin q) (.here (stSl h)) (.dma (tSem h)) (View.wordExact_bits rfl)
    ((View.wordExact_bits rfl).reshape _ _) ⟨Or.inl rfl, trivial⟩)
abbrev waitX (q : Fin 4) (h : Fin 2) : P F PUnit :=
  Prog.lift (.waitDma2 (tSem h) (xWin q) (stSl h) (View.wordExact_bits rfl) ((View.wordExact_bits rfl).reshape _ _))
abbrev loadX (q : Fin 4) : P F (Vec F S1024x1024 .bf16) :=
  Prog.lift (.load xbM (xRect q).toLoadRect (View.loadsAt_vmem h_S1024x1024))
abbrev loadW (k : Fin 4) : P F (Vec F S1x1024x512 .f32) :=
  Prog.lift (.load wbM (wbRect k).toLoadRect (View.loadsAt_vmem h_S1x1024x512))
abbrev loadSt (h : Fin 2) : P F (Vec F S1x1024x1024 .f32) :=
  Prog.lift (.load stM (stRect h).toLoadRect (View.loadsAt_vmem h_S1x1024x1024))

/-- Quarter `q` of the rows arrives in slot `h` and is stored rounded. -/
def convX (q : Fin 4) (h : Fin 2) : P F PUnit := do
  waitX q h
  let v ← loadSt h
  let _ ← loadX q
  Prog.lift (.store xbM (xRect q) (xPay v) Finset.univ
    (View.stores_vmem h_S1024x1024 ((Memref.isWhole_whole cc0_scratch2).storeExact_slice rfl _ (packed_x q)) (fun _ => rfl))
    (.inl rfl))

/-- The first transfers. -/
def start (d : Dev nD) : P F PUnit := do
  startW d 0 0 0
  startW d 0 0 1
  startX 0 0
  startX 1 1

/-- The barrier. -/
def barrier (d : Dev nD) : P F PUnit := do
  semSignalWord (signalTo d 0) bar 1#32
  semSignalWord (signalTo d 1) bar 1#32
  semSignalWord (signalTo d 2) bar 1#32
  semWaitWord bar 3#32

/-- The device's rows, rounded. -/
def convAll : P F PUnit := do
  convX 0 0
  startX 2 0
  convX 1 1
  startX 3 1
  convX 2 0
  convX 3 1

/-- The products of block `b` of part `c`: its four quarters, the transfers of its third and fourth started within, and
    of the first two of the next block `(c', b')` when there is one. -/
def product (d : Dev nD) (c b : Fin 4) (next : Option (Fin 4 × Fin 4)) : P F (FVec F S1024x512 .f32) := do
  waitW d c b 0
  startW d c b 2
  let x0 ← loadX 0
  let w0 ← loadW 0
  waitW d c b 1
  startW d c b 3
  let x1 ← loadX 1
  let w1 ← loadW 1
  waitW d c b 2
  match next with
  | some n => do
    startW d n.1 n.2 0
    let x2 ← loadX 2
    let w2 ← loadW 2
    waitW d c b 3
    startW d n.1 n.2 1
    let x3 ← loadX 3
    let w3 ← loadW 3
    pure (sumPay x0 x1 x2 x3 w0 w1 w2 w3)
  | none => do
    let x2 ← loadX 2
    let w2 ← loadW 2
    waitW d c b 3
    let x3 ← loadX 3
    let w3 ← loadW 3
    pure (sumPay x0 x1 x2 x3 w0 w1 w2 w3)

/-- The part of another device as one of the four. -/
abbrev far (c : Fin 3) : Fin 4 := c.castSucc

abbrev startSend (d : Dev nD) (c : Fin 3) (b : Fin 4) : P F PUnit :=
  Prog.lift (.enqueueDma (sbSl c b) (.remote (Dev.tc (sendTo d c)) (rbSl c b) (.dma (sSem c b))) (.dma (rSem c b))
    (((Memref.isWhole_whole cc0_scratch4).wordExact_slice rfl _ (words_sb c b)).reshape _ _)
    (((Memref.isWhole_whole cc0_scratch5).wordExact_slice rfl _ (words_sb c b)).reshape _ _) ⟨⟨rfl, Or.inl rfl⟩, trivial⟩)

abbrev storeSend (c : Fin 3) (b : Fin 4) (y : FVec F S1024x512 .f32) : P F PUnit :=
  Prog.lift (.store sbM (sbRect c b) (sendPay y) Finset.univ
    (View.stores_vmem h_S1x1024x512 ((Memref.isWhole_whole cc0_scratch4).storeExact_slice rfl _ (packed_sb c b))
      (fun _ => rfl)) (.inl rfl))

/-- Block `b` of the part `c + 1` places ahead: computed, stored and sent. -/
def sendBlk (d : Dev nD) (c : Fin 3) (b : Fin 4) (n : Fin 4 × Fin 4) : P F PUnit := do
  let y ← product d (far c) b (some n)
  let _ ← Prog.lift (.load sbM (sbRect c b).toLoadRect (View.loadsAt_vmem h_S1x1024x512))
  storeSend c b y
  startSend d c b

abbrev startOwn (d : Dev nD) (b : Fin 4) (h : Fin 2) : P F PUnit :=
  Prog.lift (.enqueueDma (obSl h) (.here (oWin d b)) (.dma (oSem h)) ((View.wordExact_bits rfl).reshape _ _)
    ((View.wordExact_bits rfl).reshape _ _) ⟨Or.inl rfl, trivial⟩)
abbrev waitOwn (d : Dev nD) (b : Fin 4) (h : Fin 2) : P F PUnit :=
  Prog.lift (.waitDma2 (oSem h) (obSl h) (oWin d b) ((View.wordExact_bits rfl).reshape _ _)
    ((View.wordExact_bits rfl).reshape _ _))

/-- The device's own block `b`, stored in slot `h` and copied to the result. -/
def ownEnd (d : Dev nD) (b : Fin 4) (h : Fin 2) (y : FVec F S1024x512 .f32) : P F PUnit := do
  let _ ← Prog.lift (.load obM (obRect h).toLoadRect (View.loadsAt_vmem h_S1x1024x512))
  Prog.lift (.store obM (obRect h) (ownPay y) Finset.univ (View.stores_vmem_bits_univ h_S1x1024x512 rfl) (.inl rfl))
  startOwn d b h

/-- The four own blocks. -/
def ownAll (d : Dev nD) : P F PUnit := do
  let y ← product d 3 0 (some (3, 1))
  ownEnd d 0 0 y
  let y ← product d 3 1 (some (3, 2))
  ownEnd d 1 1 y
  let y ← product d 3 2 (some (3, 3))
  waitOwn d 0 0
  ownEnd d 2 0 y
  let y ← product d 3 3 none
  waitOwn d 1 1
  ownEnd d 3 1 y
  waitOwn d 2 0
  waitOwn d 3 1

abbrev waitRecv (r : Fin 3) (b : Fin 4) : P F PUnit :=
  Prog.lift (.waitDma2 (rSem r b) (sbSl r b) (rbSl r b)
    (((Memref.isWhole_whole cc0_scratch4).wordExact_slice rfl _ (words_sb r b)).reshape _ _)
    (((Memref.isWhole_whole cc0_scratch5).wordExact_slice rfl _ (words_sb r b)).reshape _ _))
abbrev waitSend (r : Fin 3) (b : Fin 4) : P F PUnit :=
  Prog.lift (.waitDma2 (sSem r b) (rbSl r b) (sbSl r b)
    (((Memref.isWhole_whole cc0_scratch5).wordExact_slice rfl _ (words_sb r b)).reshape _ _)
    (((Memref.isWhole_whole cc0_scratch4).wordExact_slice rfl _ (words_sb r b)).reshape _ _))
abbrev startFar (d : Dev nD) (r : Fin 3) (h : Fin 2) : P F PUnit :=
  Prog.lift (.enqueueDma (stSl h) (.here (fWin d r h)) (.dma (tSem h)) ((View.wordExact_bits rfl).reshape _ _)
    ((View.wordExact_bits rfl).reshape _ _) ⟨Or.inl rfl, trivial⟩)
abbrev waitFar (d : Dev nD) (r : Fin 3) (h : Fin 2) : P F PUnit :=
  Prog.lift (.waitDma2 (tSem h) (stSl h) (fWin d r h) ((View.wordExact_bits rfl).reshape _ _)
    ((View.wordExact_bits rfl).reshape _ _))

/-- Half `h` of received part `r`, widened and copied to the result. -/
def drainEnd (d : Dev nD) (r : Fin 3) (h : Fin 2) : P F PUnit := do
  let v : Vec F S1x1024x1024 .bf16 ←
    Prog.lift (.load rbM (rhRect r h).toLoadRect (View.loadsAt_vmem h_S1x1024x1024))
  let _ ← loadSt h
  Prog.lift (.store stM (stRect h) (drainPay v) Finset.univ (View.stores_vmem_bits_univ h_S1x1024x1024 rfl) (.inl rfl))
  startFar d r h

/-- The four arrivals of part `r`. -/
def recvAll (r : Fin 3) : P F PUnit := do
  waitRecv r 0
  waitRecv r 1
  waitRecv r 2
  waitRecv r 3

/-- A received part after the first: each half waits for the slot's last copy. -/
def drainNext (d : Dev nD) (p r : Fin 3) : P F PUnit := do
  recvAll r
  waitFar d p 0
  drainEnd d r 0
  waitFar d p 1
  drainEnd d r 1

/-- The three received parts. -/
def drainAll (d : Dev nD) : P F PUnit := do
  recvAll 0
  drainEnd d 0 0
  drainEnd d 0 1
  drainNext d 0 1
  drainNext d 1 2
  waitFar d 2 0
  waitFar d 2 1

/-- The departures of part `r`. -/
def sentAll (r : Fin 3) : P F PUnit := do
  waitSend r 0
  waitSend r 1
  waitSend r 2
  waitSend r 3

/-- The four sent blocks of part `c`. -/
def sendPart (d : Dev nD) (c : Fin 3) : P F PUnit := do
  sendBlk d c 0 (far c, 1)
  sendBlk d c 1 (far c, 2)
  sendBlk d c 2 (far c, 3)
  sendBlk d c 3 (c.succ, 0)

/-- The body. -/
def body : P F PUnit := do
  let d ← Prog.lift .deviceId
  start d
  barrier d
  convAll
  sendPart d 0
  sendPart d 1
  sendPart d 2
  ownAll d
  drainAll d
  sentAll 0
  sentAll 1
  sentAll 2

set_option maxRecDepth 65536 in
/-- The printed body is this program. -/
theorem body_eq (t : Fin cfg0.N) : bodyAt0 (F := F) t = body := by chain_rfl

end Cert.KernelIdeal.Run

end
-- ==== Proof.Sched.lean ====
/- The protocol of the kernel: its cells, the duties of each cell with what they hand over, what each device owes at
   launch, the levels of the cells, and the values the buffers hold. -/
module

public import proofs.«01_k».proof.Proof.Shape
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.ValueIdx
public import Idealize.ShloMosaic.Lib.ViewIndex
public import Idealize.ShloMosaic.Lib.Tactic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

/-! ### The algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ### The mesh -/

/-- The device whose sends of part `r` address `d`. -/
def srcOf (d : Dev nD) (r : Fin 3) : Dev nD := ⟨(d.val + 3 - r.val) % 4, Nat.mod_lt _ (by decide)⟩

theorem sendTo_val (d : Dev nD) (r : Fin 3) : (sendTo d r).val = (d.val + 1 + r.val) % 4 := by
  revert d r; decide
theorem signalTo_val (d : Dev nD) (j : Fin 3) : (signalTo d j).val = (d.val + 1 + j.val) % 4 := by
  revert d j; decide
theorem sendTo_srcOf (d : Dev nD) (r : Fin 3) : sendTo (srcOf d r) r = d := by revert d r; decide
theorem srcOf_sendTo (d : Dev nD) (r : Fin 3) : srcOf (sendTo d r) r = d := by revert d r; decide
theorem signalTo_eq (d : Dev nD) (j : Fin 3) : signalTo d j = sendTo d j := Fin.ext (by rw [signalTo_val, sendTo_val])
/-- The signal to the device `j + 1` places ahead reaches the device that sends its part `2 - j` back. -/
theorem sendTo_signalTo (d : Dev nD) (j : Fin 3) : sendTo (signalTo d j) j.rev = d := by revert d j; decide

/-- The devices `r + 1` places ahead, as a permutation of the mesh. -/
def ahead (r : Fin 3) : Dev nD ≃ Dev nD :=
  ⟨fun d => sendTo d r, fun d => srcOf d r, fun d => srcOf_sendTo d r, fun d => sendTo_srcOf d r⟩

/-! ### Cells -/

/-- The cells of the protocol on one device: the barrier, the send cell and the receive cell of each block. -/
abbrev CellIx : Type := Option (Bool × Fin 3 × Fin 4)

abbrev csem (k : CellIx) : SemLoc sig :=
  match k with
  | none => .reg bar
  | some (false, r, b) => .dma (sSem r b)
  | some (true, r, b) => .dma (rSem r b)

theorem sSem_val (r : Fin 3) (b : Fin 4) : (sSem r b).val = 4 * r.val + b.val := by revert r b; decide
theorem rSem_val (r : Fin 3) (b : Fin 4) : (rSem r b).val = 12 + (4 * r.val + b.val) := by revert r b; decide
theorem wSem_val (k : Fin 4) : (wSem k).val = 24 + k.val := by revert k; decide
theorem oSem_val (k : Fin 2) : (oSem k).val = 28 + k.val := by revert k; decide
theorem tSem_val (k : Fin 2) : (tSem k).val = 30 + k.val := by revert k; decide

theorem csem_injective : Function.Injective csem := by
  rintro (_ | ⟨_ | _, r, b⟩) (_ | ⟨_ | _, r', b'⟩) h
  · rfl
  · exact absurd h (fun h => by cases h)
  · exact absurd h (fun h => by cases h)
  · exact absurd h (fun h => by cases h)
  · have h' := congrArg Fin.val (SemLoc.dma.inj h)
    rw [sSem_val, sSem_val] at h'
    have hr : r = r' := Fin.ext (by omega)
    have hb : b = b' := Fin.ext (by omega)
    rw [hr, hb]
  · have h' := congrArg Fin.val (SemLoc.dma.inj h)
    rw [sSem_val, rSem_val] at h'
    omega
  · exact absurd h (fun h => by cases h)
  · have h' := congrArg Fin.val (SemLoc.dma.inj h)
    rw [sSem_val, rSem_val] at h'
    omega
  · have h' := congrArg Fin.val (SemLoc.dma.inj h)
    rw [rSem_val, rSem_val] at h'
    have hr : r = r' := Fin.ext (by omega)
    have hb : b = b' := Fin.ext (by omega)
    rw [hr, hb]

abbrev kcell (ck : Dev nD × CellIx) : GSem nD τ sig := ((ck.1 : Thread nD τ), csem ck.2)
abbrev barCell (d : Dev nD) : GSem nD τ sig := kcell (d, none)
abbrev sendCell (d : Dev nD) (r : Fin 3) (b : Fin 4) : GSem nD τ sig := kcell (d, some (false, r, b))
abbrev recvCell (d : Dev nD) (r : Fin 3) (b : Fin 4) : GSem nD τ sig := kcell (d, some (true, r, b))

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which cell of the protocol a semaphore is, if any. -/
def ixOf (s : SemLoc sig) : Option CellIx := preimage? ⟨csem, csem_injective⟩ s

theorem ixOf_csem (k : CellIx) : ixOf (csem k) = some k := preimage?_emb ⟨csem, csem_injective⟩ k

/-- A local transfer's semaphore is no cell of the protocol. -/
theorem ixOf_local (s : DmaSem sig) (h : 24 ≤ s.val) : ixOf (.dma s) = none := by
  refine preimage?_eq_none fun k hk => ?_
  rcases k with _ | ⟨_ | _, r, b⟩
  · cases hk
  · have := congrArg Fin.val (SemLoc.dma.inj hk)
    rw [sSem_val] at this; omega
  · have := congrArg Fin.val (SemLoc.dma.inj hk)
    rw [rSem_val] at this; omega

/-- The credit of a block. -/
abbrev N : ℕ := (rbSl 0 0).view.dmaCredit
theorem N_pos : 0 < N := View.dmaCredit_pos _ (by decide)

/-! ### The values -/

abbrev mx (p : Dev nD) : (main_arg0 : Ref sig .tc).ty.Contents (Elt F) := m ((p : Thread nD τ).loc main_arg0)
abbrev mw (p : Dev nD) : (main_arg1 : Ref sig .tc).ty.Contents (Elt F) := m ((p : Thread nD τ).loc main_arg1)

/-- Quarter `q` of device `p`'s rows. -/
def xRaw (p : Dev nD) (q : Fin 4) : FVec F S1024x1024 .f32 := (xWin q).view.read (Elt F) (mx m p)
/-- The same, rounded. -/
def xVal (p : Dev nD) (q : Fin 4) : FVec F S1024x1024 .bf16 := truncf .bf16 (xRaw m p q) bitsLt_bf16_f32
/-- The window of `w` that device `p` fetches for rows `1024 k …` of block `b` of part `c`. -/
def wVal (p : Dev nD) (c b k : Fin 4) : FVec F S1024x512 .f32 := (wWin p c b k).view.read (Elt F) (mw m p)

/-- The product of one quarter of the contraction. -/
def dotV (xv : FVec F S1024x1024 .bf16) (wv : FVec F S1024x512 .f32) : FVec F S1024x512 .f32 :=
  matmul dot_S1024x1024_S1024x512_S1024x512_1_0_0_1_n_n none xv (truncf .bf16 wv bitsLt_bf16_f32)
    (constant S1024x512 .f32 0x00000000#32)

/-- Block `b` of part `c` of device `p`'s rows times `w`. -/
def yVal (p : Dev nD) (c b : Fin 4) : FVec F S1024x512 .f32 :=
  addf (addf (addf (dotV (xVal m p 0) (wVal m p c b 0)) (dotV (xVal m p 1) (wVal m p c b 1)))
    (dotV (xVal m p 2) (wVal m p c b 2))) (dotV (xVal m p 3) (wVal m p c b 3))

/-- The block that device `p` sends. -/
def sVal (p : Dev nD) (r : Fin 3) (b : Fin 4) : FVec F S1024x512 .bf16 :=
  truncf .bf16 (siluPay (yVal m p (far r) b)) bitsLt_bf16_f32

/-- The block that device `p` keeps. -/
def oVal (p : Dev nD) (b : Fin 4) : FVec F S1024x512 .f32 := siluPay (yVal m p 3 b)

/-- Four blocks side by side, at a row and a column. -/
def beside {α : Type} (f : Fin 4 → S1024x512.Idx → α) (i : Fin 1024) (j : Fin 2048) : α :=
  f ⟨j.val / 512, by omega⟩ (ix2 i ⟨j.val % 512, Nat.mod_lt _ (by decide)⟩)

/-- The receive buffer of device `d` once every block is in. -/
def rVal (d : Dev nD) : S3x1024x2048.Idx → Elt F .bf16 :=
  fun i => beside (fun b => sVal m (srcOf d (i 0)) (i 0) b) (i 1) (i 2)

/-- The part received from device `p`, as `d` numbers them. -/
def partOf (d p : Dev nD) : Fin 3 := ⟨(d.val + 3 - p.val) % 4 % 3, Nat.mod_lt _ (by decide)⟩

/-- Half `h` of received part `r`, widened. -/
def fVal (d : Dev nD) (r : Fin 3) (h : Fin 2) : FVec F S1024x1024 .f32 :=
  extf .f32 (shapeCast S1024x1024 (fun j => rVal m d ((rhRect r h).emb j)) shapeCasts_S1x1024x1024_S1024x1024) bitsLt_bf16_f32

/-- The result on device `d`. -/
def outVal (d : Dev nD) : S4x1024x2048.Idx → Elt F .f32 := fun i =>
  if (i 0).val = d.val then beside (fun b => oVal m d b) (i 1) (i 2)
  else FloatOps.extf .f32 bitsLt_bf16_f32 (rVal m d (ix3 (partOf d (i 0)) (i 1) (i 2)))

/-! ### The schedule -/

/-- Device `d` owns a memref at some contents. -/
abbrev some' (d : Dev nD) {sp : Space} {sh : Shape} {e : EltTy} (M : Memref sig .tc sp sh e) : sProp 𝕄 :=
  iprop(∃ X, owns (d : Thread nD τ) M fullShare X)
abbrev at' (d : Dev nD) {sp : Space} {sh : Shape} {e : EltTy} (M : Memref sig .tc sp sh e) (X : sh.Idx → Elt F e) : sProp 𝕄 :=
  owns (d : Thread nD τ) M fullShare X

/-- What the duties of device `d`'s cells hand `d`: the barrier duty `r`, the slots of part `r` in the receive buffer
    of the device that `d` sends part `r` to; a send cell, the sent block's slot; a receive cell, the received slot with
    the block sent. -/
def pay (d : Dev nD) (k : CellIx) (r : Fin 3) : sProp 𝕄 :=
  match k with
  | none => bigSep Finset.univ fun b : Fin 4 => some' (sendTo d r) (rbSl r b)
  | some (false, r, b) => some' d (sbSl r b)
  | some (true, r, b) => at' d (rbSl r b) (sVal m (srcOf d r) r b)

instance pay_storable (d : Dev nD) (k : CellIx) (r : Fin 3) : BI.Storable (upEmb : UEmb _ 𝕄) (pay m d k r) := by
  unfold pay
  split <;> infer_instance

def dutyOf (k : CellIx) : Finset (Fin 3) := match k with
  | none => Finset.univ
  | some _ => {0}
def amountOf (k : CellIx) : ℕ := match k with
  | none => 1
  | some _ => N

def payAt (g : GSem nD τ sig) (r : Fin 3) : sProp 𝕄 :=
  match ixOf g.2 with
  | some k => pay m g.1.1 k r
  | none => iprop(emp)

instance payAt_storable (g : GSem nD τ sig) (r : Fin 3) : BI.Storable (upEmb : UEmb _ 𝕄) (payAt m g r) := by
  unfold payAt
  split <;> infer_instance

/-- Every cell has one round: the barrier three units, a send or receive cell one block. -/
def Rd : Rounds.Schedule (GSem nD τ sig) (Fin 3) 𝕄 where
  duties g r := if r = 0 ∧ g.1.2 = .tc then (match ixOf g.2 with | some k => dutyOf k | none => ∅) else ∅
  unitless _ := False
  amount g _ _ := match ixOf g.2 with | some k => amountOf k | none => 1
  payload g _ d := payAt m g d
  amount_pos g _ _ _ := by
    split
    · rename_i k _; cases k
      · exact Nat.one_pos
      · exact N_pos
    · exact Nat.one_pos

instance Rd_payload_storable (g : GSem nD τ sig) (r : ℕ) (d : Fin 3) :
    BI.Storable (upEmb : UEmb _ 𝕄) ((Rd (F := F) m).payload g r d) := payAt_storable m g d

section Sched
variable (ck : Dev nD × CellIx)

theorem duties_at : (Rd (F := F) m).duties (kcell ck) 0 = dutyOf ck.2 := by
  dsimp only [Rd]; rw [if_pos ⟨rfl, rfl⟩, ixOf_csem]
theorem duties_later (g : GSem nD τ sig) : ∀ r, 1 ≤ r → (Rd (F := F) m).duties g r = ∅ :=
  fun r hr => by dsimp only [Rd]; rw [if_neg fun h => by omega]
theorem amount_at (r : Fin 3) : (Rd (F := F) m).amount (kcell ck) 0 r = amountOf ck.2 := by
  dsimp only [Rd]; rw [ixOf_csem]
theorem payload_at (r : Fin 3) : (Rd (F := F) m).payload (kcell ck) 0 r = pay m ck.1 ck.2 r := by
  dsimp only [Rd, payAt]; rw [ixOf_csem]

theorem expect_at : (Rd (F := F) m).expect (kcell ck) 0 = (dutyOf ck.2).card * amountOf ck.2 := by
  unfold Schedule.expect Schedule.amountOf
  rw [duties_at, Finset.sum_congr rfl fun d _ => amount_at m ck d, Finset.sum_const, smul_eq_mul]
theorem rest_at : bigSep ((Rd (F := F) m).duties (kcell ck) 0 \ ∅) (fun d => (Rd (F := F) m).payload (kcell ck) 0 d)
    = bigSep (dutyOf ck.2) (fun r => pay m ck.1 ck.2 r) := by
  rw [Finset.sdiff_empty, duties_at]
  exact bigSep_congr fun r _ => payload_at m ck r

end Sched

/-! ### What each device owes; levels -/

/-- The receive credits of the blocks `S` that device `d` has not sent yet. -/
def owedR (d : Dev nD) (S : Finset (Fin 3 × Fin 4)) : CellTallies nD τ sig Unit :=
  ∑ p ∈ S, tallyAt (recvCell (sendTo d p.1) p.1 p.2) () N
/-- With the last `n` of its three barrier signals. -/
def owedB (d : Dev nD) : ℕ → CellTallies nD τ sig Unit
  | 0 => owedR d Finset.univ
  | 1 => owedR d Finset.univ + tallyAt (barCell (signalTo d 2)) () 1
  | 2 => owedR d Finset.univ + tallyAt (barCell (signalTo d 2)) () 1 + tallyAt (barCell (signalTo d 1)) () 1
  | _ => owedR d Finset.univ + tallyAt (barCell (signalTo d 2)) () 1 + tallyAt (barCell (signalTo d 1)) () 1
      + tallyAt (barCell (signalTo d 0)) () 1

abbrev O₀ (d : Dev nD) : CellTallies nD τ sig Unit := owedB d 3

theorem owedR_erase (d : Dev nD) (S : Finset (Fin 3 × Fin 4)) (p : Fin 3 × Fin 4) (hp : p ∈ S) :
    owedR d S = owedR d (S.erase p) + tallyAt (recvCell (sendTo d p.1) p.1 p.2) () N :=
  (Finset.sum_erase_add S _ hp).symm
theorem owedR_empty (d : Dev nD) : owedR d ∅ = 0 := Finset.sum_empty

def L (g : GSem nD τ sig) : Finset Unit := if g.1.2 = .tc then {()} else ∅
/-- The level of a cell: barrier 1, receive 2, every other 0. -/
def lv (g : GSem nD τ sig) (_ : Unit) : ℕ :=
  match ixOf g.2 with
  | some none => 1
  | some (some (true, _, _)) => 2
  | _ => 0

theorem L_of_ne (g : GSem nD τ sig) (h : g.1.2 ≠ .tc) : L g = ∅ := if_neg h
theorem L_tc (d : Dev nD) (sm : SemLoc sig) : L ((d : Thread nD τ), sm) = {()} := if_pos rfl

theorem lv_bar (d : Dev nD) : lv (barCell d) () = 1 := by dsimp only [lv]; rw [ixOf_csem]
theorem lv_recv (d : Dev nD) (r : Fin 3) (b : Fin 4) : lv (recvCell d r b) () = 2 := by dsimp only [lv]; rw [ixOf_csem]
theorem lv_send (d : Dev nD) (r : Fin 3) (b : Fin 4) : lv (sendCell d r b) () = 0 := by dsimp only [lv]; rw [ixOf_csem]
theorem lv_local (d : Dev nD) (s : DmaSem sig) (h : 24 ≤ s.val) : lv ((d : Thread nD τ), .dma s) () = 0 := by
  dsimp only [lv]; rw [ixOf_local s h]

/-- What is owed to a receive cell only. -/
theorem owedR_pos {d : Dev nD} {S : Finset (Fin 3 × Fin 4)} {g : GSem nD τ sig} {u : Unit} (h : 0 < owedR d S g u) :
    ∃ p ∈ S, g = recvCell (sendTo d p.1) p.1 p.2 := by
  unfold owedR at h
  rw [Finset.sum_apply, Finsupp.finset_sum_apply] at h
  obtain ⟨p, hp, hpos⟩ := Finset.exists_ne_zero_of_sum_ne_zero (Nat.pos_iff_ne_zero.mp h)
  refine ⟨p, hp, ?_⟩
  by_contra hn
  rw [tallyAt_apply, if_neg (fun h' => hn h'.1)] at hpos
  exact hpos rfl

/-- Anything owed is owed to a barrier cell or a receive cell. -/
theorem owedB_pos {d : Dev nD} {n : ℕ} {g : GSem nD τ sig} {u : Unit} (h : 0 < owedB d n g u) :
    (∃ c, g = barCell c) ∨ ∃ c r b, g = recvCell c r b := by
  have hR (h : 0 < owedR d Finset.univ g u) : (∃ c, g = barCell c) ∨ ∃ c r b, g = recvCell c r b := by
    obtain ⟨p, -, hp⟩ := owedR_pos h
    exact .inr ⟨_, _, _, hp⟩
  have hB (c : Dev nD) (O : CellTallies nD τ sig Unit) (ih : 0 < O g u → (∃ c, g = barCell c) ∨ ∃ c r b, g = recvCell c r b)
      (h : 0 < (O + tallyAt (barCell c) () 1) g u) : (∃ c, g = barCell c) ∨ ∃ c r b, g = recvCell c r b := by
    rw [Pi.add_apply, Finsupp.add_apply, tallyAt_apply] at h
    by_cases hc : g = barCell c ∧ u = ()
    · exact .inl ⟨c, hc.1⟩
    · rw [if_neg hc, Nat.add_zero] at h; exact ih h
  rcases n with _ | _ | _ | n
  · exact hR h
  · exact hB _ _ hR h
  · exact hB _ _ (hB _ _ hR) h
  · exact hB _ _ (hB _ _ (hB _ _ hR)) h

/-- A wait on a level-0 semaphore of the own device is below all that is owed at launch. -/
theorem mayWait_low (d : Dev nD) (s : DmaSem sig) (hs : lv ((d : Thread nD τ), .dma s) () = 0) (n : ℕ) :
    (levAts L lv : sProp 𝕄) ⊢ MayWait (d : Thread nD τ) (.dma s) () (owedB d n) :=
  MayOwe.of_cut (L := L) (lev := lv) 0
    (fun p hp => by rw [Finset.mem_singleton.mp hp, L_tc]; exact Finset.mem_singleton_self _)
    (fun g u hg => by rcases owedB_pos hg with ⟨c, rfl⟩ | ⟨c, r, b, rfl⟩ <;> exact Finset.mem_singleton_self _)
    (fun p hp => by rw [Finset.mem_singleton.mp hp]; exact hs.le)
    (fun g u hg => by
      rcases owedB_pos hg with ⟨c, rfl⟩ | ⟨c, r, b, rfl⟩
      · rw [lv_bar]; exact Nat.one_pos
      · rw [lv_recv]; exact Nat.two_pos)

/-- The same while only receive credits are owed. -/
theorem mayWait_lowR (d : Dev nD) (s : DmaSem sig) (hs : lv ((d : Thread nD τ), .dma s) () = 0) (S : Finset (Fin 3 × Fin 4)) :
    (levAts L lv : sProp 𝕄) ⊢ MayWait (d : Thread nD τ) (.dma s) () (owedR d S) :=
  MayOwe.of_cut (L := L) (lev := lv) 0
    (fun p hp => by rw [Finset.mem_singleton.mp hp, L_tc]; exact Finset.mem_singleton_self _)
    (fun g u hg => by obtain ⟨p, -, rfl⟩ := owedR_pos hg; exact Finset.mem_singleton_self _)
    (fun p hp => by rw [Finset.mem_singleton.mp hp]; exact hs.le)
    (fun g u hg => by obtain ⟨p, -, rfl⟩ := owedR_pos hg; rw [lv_recv]; exact Nat.two_pos)

/-- The barrier wait is below the receive credits. -/
theorem mayWait_bar (d : Dev nD) (S : Finset (Fin 3 × Fin 4)) :
    (levAts L lv : sProp 𝕄) ⊢ MayWait (d : Thread nD τ) (.reg bar) () (owedR d S) :=
  MayOwe.of_cut (L := L) (lev := lv) 1
    (fun p hp => by rw [Finset.mem_singleton.mp hp, L_tc]; exact Finset.mem_singleton_self _)
    (fun g u hg => by obtain ⟨p, -, rfl⟩ := owedR_pos hg; exact Finset.mem_singleton_self _)
    (fun p hp => by rw [Finset.mem_singleton.mp hp]; exact (lv_bar d).le)
    (fun g u hg => by obtain ⟨p, -, rfl⟩ := owedR_pos hg; rw [lv_recv]; exact Nat.lt_succ_self 1)

end Cert.KernelIdeal.Run

end
-- ==== Proof.Rules.lean ====
/- One rule for each kind of step of the kernel, stated for memrefs owned at known contents. -/
module

public import proofs.«01_k».proof.Proof.Sched

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `d` runs `p` to `Q`. -/
abbrev runs (d : Dev nD) {α : Type} (p : P F α) (Q : α → sProp 𝕄) : sProp 𝕄 :=
  wp frame (wpE (defs₀ (F := F)) 𝒱₀ (d : Thread nD τ) none) Set.univ p Q

/-- A local transfer in flight on device `d`'s semaphore `s`. -/
abbrev Fly (d : Dev nD) (s : DmaSem sig) (n : ℕ) (D : sProp 𝕄) : sProp 𝕄 :=
  Transfers.Flight EC (d : Thread nD τ) (.dma s) () n D

/-- Device `d` owes `O`. -/
def owe (d : Dev nD) (O : CellTallies nD τ sig Unit) : sProp 𝕄 := iprop(∃ W, owes (d : Thread nD τ) O W)

/-- The counter of device `d`'s semaphore `s` at zero. -/
abbrev zero (d : Dev nD) (s : DmaSem sig) : sProp 𝕄 := semVal ((d : Thread nD τ), SemLoc.dma s) 0

/-- The source elements of a transfer at share `q` of contents `f`. -/
abbrev part (d : Dev nD) {sp : Space} {sh : Shape} {e : EltTy} (M : Memref sig .tc sp sh e) (q : PosShare TreeShare)
    (f : M.view.ty.Contents (Elt F)) : sProp 𝕄 :=
  M.view.loc (d : Thread nD τ) ↦[M.view.set]{q} f

variable (d : Dev nD) {α : Type}

section Own

variable {sp : Space} {sh : Shape} {e : EltTy} (M : Memref sig .tc sp sh e)

/-- Owned at `X`: the elements at contents that read `X`. -/
theorem at_elim (X : sh.Idx → Elt F e) :
    at' d M X ⊢ iprop(∃ f : M.view.ty.Contents (Elt F), ⌜M.view.read (Elt F) f = X⌝ ∗ part d M fullShare f) := .rfl

/-- Owned at some contents: the elements at some contents of the buffer. -/
theorem some_elim : (some' d M : sProp 𝕄) ⊢ iprop(∃ f : M.view.ty.Contents (Elt F), part d M fullShare f) := by
  iintro ⟨%X, H⟩
  ihave H' := (at_elim d M X) $$ H
  icases H' with ⟨%f, -, H⟩
  iexists f; iexact H

/-- Elements at contents that read `X` are owned at `X`. -/
theorem at_intro {X : sh.Idx → Elt F e} {f : M.view.ty.Contents (Elt F)} (h : M.view.read (Elt F) f = X) :
    part d M fullShare f ⊢ at' d M X := by
  subst h; exact owns_intro (d : Thread nD τ) M fullShare f

/-- Owned at `X` is owned at some contents. -/
theorem some_intro (X : sh.Idx → Elt F e) : at' d M X ⊢ (some' d M : sProp 𝕄) := by
  iintro H; iexists X; iexact H

end Own

section Local

variable {sp sp' : Space} {sh : Shape} {e : EltTy} {src : Memref sig .tc sp sh e} {dst : Memref sig .tc sp' sh e} {s : DmaSem sig}
  {hsrc : src.view.WordExact} {hdst : dst.view.WordExact} {hsem : DmaTarget.Typed (nD := nD) (p := (.tc : Proc τ)) sp (.dma s) (.here dst)}
  {k : PUnit → P F α}

/-- A local transfer starts from any share of its source. -/
theorem start_part {Q : α → sProp 𝕄} {q : PosShare TreeShare} (fs : src.view.ty.Contents (Elt F)) (hN0 : 0 < dst.view.dmaCredit) :
    iprop(part d src q fs ∗ some' d dst ∗ zero d s)
      ⊢ iprop((Fly d s dst.view.dmaCredit iprop(at' d dst (src.view.read (Elt F) fs) ∗ part d src q fs) -∗ runs d (k ⟨⟩) Q)
          -∗ runs d (Prog.lift (.enqueueDma src (.here dst) (.dma s) hsrc hdst hsem) >>= k) Q) := by
  show _ ⊢ iprop(_ -∗ wp frame (wpE (defs₀ (F := F)) 𝒱₀ (d : Thread nD τ) none) Set.univ
    (.op (.enqueueDmaAs src (.here dst) .same (.dma s) hsrc hdst hsem) k) Q)
  iintro ⟨Hs, Hd, Hz⟩ Hk
  ihave Hd' := (some_elim d dst) $$ Hd
  icases Hd' with ⟨%f, Hd⟩
  iapply (Transfers.wp_dmaLocal EC 𝒱₀ (d : Thread nD τ) none () dst.view.dmaCredit rfl hN0 subset_rfl) $$ [Hs Hd Hz]
  · isplitl [Hs]; · iexact Hs
    isplitl [Hd] <;> iassumption
  iintro HF
  iapply Hk
  iapply (Transfers.Flight_mono EC (d : Thread nD τ) (sep_mono_left (at_intro d dst (View.read_write_univ f _)))) $$ HF

/-- A local transfer starts from an owned memref. -/
theorem start_owned {Q : α → sProp 𝕄} (X : sh.Idx → Elt F e) (hN0 : 0 < dst.view.dmaCredit) :
    iprop(at' d src X ∗ some' d dst ∗ zero d s)
      ⊢ iprop((Fly d s dst.view.dmaCredit iprop(at' d dst X ∗ at' d src X) -∗ runs d (k ⟨⟩) Q)
          -∗ runs d (Prog.lift (.enqueueDma src (.here dst) (.dma s) hsrc hdst hsem) >>= k) Q) := by
  iintro ⟨Hs, Hd, Hz⟩ Hk
  ihave Hs' := (at_elim d src X) $$ Hs
  icases Hs' with ⟨%f, %hf, Hs⟩
  subst hf
  iapply (start_part d f hN0) $$ [Hs Hd Hz]
  · isplitl [Hs]; · iexact Hs
    isplitl [Hd] <;> iassumption
  iintro HF
  iapply Hk
  iapply (Transfers.Flight_mono EC (d : Thread nD τ) (sep_mono_right (owns_intro (d : Thread nD τ) src fullShare f))) $$ HF

end Local

/-- The wait of a local transfer. -/
theorem wait_local {sp sp' : Space} {sh sh' : Shape} {e e' : EltTy} {srcw : Memref sig .tc sp' sh' e'} {dstw : Memref sig .tc sp sh e}
    {s : DmaSem sig} {hsrc : srcw.view.WordExact} {hdst : dstw.view.WordExact} {k : PUnit → P F α} {Q : α → sProp 𝕄} {n : ℕ}
    (hn : dstw.view.dmaCredit = n) {D : sProp 𝕄} {O : CellTallies nD τ sig Unit}
    (hO : (levAts L lv : sProp 𝕄) ⊢ MayWait (d : Thread nD τ) (.dma s) () O) :
    iprop(levAts L lv ∗ Fly d s n D ∗ owe d O)
      ⊢ iprop((iprop(D ∗ zero d s ∗ owe d O) -∗ runs d (k ⟨⟩) Q)
          -∗ runs d (Prog.lift (.waitDma2 s srcw dstw hsrc hdst) >>= k) Q) := by
  show _ ⊢ iprop(_ -∗ wp frame (wpE (defs₀ (F := F)) 𝒱₀ (d : Thread nD τ) none) Set.univ (.op (.waitDma2 s srcw dstw hsrc hdst) k) Q)
  unfold owe
  iintro ⟨Hl, HF, ⟨%W, HO⟩⟩ Hk
  iapply (Transfers.wp_waitLocalO EC 𝒱₀ (d : Thread nD τ) none () hn) $$ [Hl HF HO]
  · isplitl [HF]; · iexact HF
    isplitl [HO]; · iexact HO
    iapply hO; iexact Hl
  iintro ⟨HD, Hz, HO⟩
  iapply Hk
  isplitl [HD]; · iexact HD
  isplitl [Hz]; · iexact Hz
  iexists _; iexact HO

section Slots

variable {cs : CoreSpace} {sh s' : Shape} {e : EltTy} {M : Memref sig .tc cs sh e} {r : Rect sh} {hr : ∀ a, r.stride a = 1}
  {hq : r.shape.Squeezes s'}

/-- A load through the rectangle of an owned slot. -/
theorem load_slot {hl : M.view.LoadsAt r.toLoadRect} {k : (r.shape.Idx → Elt F e) → P F α} {Q : α → sProp 𝕄} (X : s'.Idx → Elt F e)
    (hc : s'.ShapeCasts r.shape) :
    at' d ((M.slice r hr).squeeze s' hq) X
      ⊢ iprop((at' d ((M.slice r hr).squeeze s' hq) X -∗ runs d (k (shapeCast r.shape X hc)) Q)
          -∗ runs d (Prog.lift (.load M r.toLoadRect hl) >>= k) Q) := by
  show _ ⊢ iprop(_ -∗ wp frame (wpE (defs₀ (F := F)) 𝒱₀ (d : Thread nD τ) none) Set.univ (.op (.load M r.toLoadRect hl) k) Q)
  iintro H Hk
  ihave H' := (at_elim d ((M.slice r hr).squeeze s' hq) X) $$ H
  icases H' with ⟨%f, %hf, H⟩
  have hv : M.view.readAt (Elt F) r.toLoadRect f = shapeCast r.shape X hc := by
    rw [← hf, Memref.read_squeeze_slice M r hr hq hq.numel_eq f, shapeCast_shapeCast]
  subst hf
  iapply (wp_load_rect 𝒱₀ (d : Thread nD τ) none Set.univ (m := M) (r := r) (k := k)
    (show (M.access r).set ⊆ ((M.slice r hr).squeeze s' hq).view.set by rw [Memref.set_view_squeeze])) $$ H
  iintro H
  rw [← hv]
  iapply Hk
  iapply (owns_intro (d : Thread nD τ) ((M.slice r hr).squeeze s' hq) fullShare f)
  iexact H

/-- A store through the rectangle of an owned slot. -/
theorem store_slot {Q : α → sProp 𝕄} {w : r.shape.Idx → Elt F e} {hx : (M.access r).Stores Finset.univ} {hm : (Finset.univ : Finset r.shape.Idx) = Finset.univ ∨ ∀ a, r.stride a = 1}
    {k : PUnit → P F α} (hc : r.shape.ShapeCasts s') :
    some' d ((M.slice r hr).squeeze s' hq)
      ⊢ iprop((at' d ((M.slice r hr).squeeze s' hq) (shapeCast s' w hc) -∗ runs d (k ⟨⟩) Q)
          -∗ runs d (Prog.lift (.store M r w Finset.univ hx hm) >>= k) Q) := by
  show _ ⊢ iprop(_ -∗ wp frame (wpE (defs₀ (F := F)) 𝒱₀ (d : Thread nD τ) none) Set.univ (.op (.store M r w Finset.univ hx hm) k) Q)
  iintro H Hk
  ihave H' := (some_elim d ((M.slice r hr).squeeze s' hq)) $$ H
  icases H' with ⟨%f, H⟩
  iapply (wp_store 𝒱₀ (d : Thread nD τ) none Set.univ (m := M) (r := r) (Mk := Finset.univ)
    (show (M.access r).setOn Finset.univ ⊆ ((M.slice r hr).squeeze s' hq).view.set by
      rw [Memref.set_view_squeeze]; exact subset_rfl)) $$ H
  iintro H
  iapply Hk
  iapply (at_intro d ((M.slice r hr).squeeze s' hq) (f := (M.access r).write (Elt F) f w Finset.univ)
    (funext fun j => View.read_write_of_mem (v := M.access r) f w (Finset.mem_univ _)))
  iexact H

/-- A load through the rectangle of an owned slice. -/
theorem load_slice {hl : M.view.LoadsAt r.toLoadRect} {k : (r.shape.Idx → Elt F e) → P F α} {Q : α → sProp 𝕄} (X : r.shape.Idx → Elt F e) :
    at' d (M.slice r hr) X
      ⊢ iprop((at' d (M.slice r hr) X -∗ runs d (k X) Q)
          -∗ runs d (Prog.lift (.load M r.toLoadRect hl) >>= k) Q) := by
  show _ ⊢ iprop(_ -∗ wp frame (wpE (defs₀ (F := F)) 𝒱₀ (d : Thread nD τ) none) Set.univ (.op (.load M r.toLoadRect hl) k) Q)
  iintro H Hk
  ihave H' := (at_elim d (M.slice r hr) X) $$ H
  icases H' with ⟨%f, %hf, H⟩
  subst hf
  iapply (wp_load_rect 𝒱₀ (d : Thread nD τ) none Set.univ (m := M) (r := r) (k := k) subset_rfl) $$ H
  iintro H
  iapply Hk
  iapply (owns_intro (d : Thread nD τ) (M.slice r hr) fullShare f)
  iexact H

/-- A store through the rectangle of an owned slice. -/
theorem store_slice {Q : α → sProp 𝕄} {w : r.shape.Idx → Elt F e} {hx : (M.access r).Stores Finset.univ}
    {hm : (Finset.univ : Finset r.shape.Idx) = Finset.univ ∨ ∀ a, r.stride a = 1} {k : PUnit → P F α} :
    some' d (M.slice r hr)
      ⊢ iprop((at' d (M.slice r hr) w -∗ runs d (k ⟨⟩) Q)
          -∗ runs d (Prog.lift (.store M r w Finset.univ hx hm) >>= k) Q) := by
  show _ ⊢ iprop(_ -∗ wp frame (wpE (defs₀ (F := F)) 𝒱₀ (d : Thread nD τ) none) Set.univ (.op (.store M r w Finset.univ hx hm) k) Q)
  iintro H Hk
  ihave H' := (some_elim d (M.slice r hr)) $$ H
  icases H' with ⟨%f, H⟩
  iapply (wp_store 𝒱₀ (d : Thread nD τ) none Set.univ (m := M) (r := r) (Mk := Finset.univ)
    (f := f) (S := (M.slice r hr).view.set) subset_rfl) $$ H
  iintro H
  iapply Hk
  iapply (at_intro d (M.slice r hr) (View.read_write_univ f w))
  iexact H

end Slots

end Cert.KernelIdeal.Run

end
-- ==== Proof.Split.lean ====
/- The buffers cut into the parts that the kernel moves, and put together again. -/
module

public import proofs.«01_k».proof.Proof.Rules

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (d : Dev nD)

instance elt_nonempty (e : EltTy) : Nonempty (Elt F e) := ⟨default⟩

/-- A family of unit-stride rectangles that covers a shape without overlap. -/
structure Tiling (sh : Shape) (T : Type) [Fintype T] where
  r : T → Rect sh
  one : ∀ t a, (r t).stride a = 1
  disj : ∀ t t', t ≠ t' → Disjoint (r t).set (r t').set
  cover : (Finset.univ : Finset T).biUnion (fun t => (r t).set) = Finset.univ

/-! ### Squeezed slices -/

section Squeeze

variable {sp : Space} {sh s' : Shape} {e : EltTy} {M : Memref sig .tc sp sh e} {r : Rect sh} {hr : ∀ a, r.stride a = 1}
  {hq : r.shape.Squeezes s'}

theorem part_squeeze (q : PosShare TreeShare) (f : M.view.ty.Contents (Elt F)) :
    (part d ((M.slice r hr).squeeze s' hq) q f : sProp 𝕄) = part d (M.slice r hr) q f := by
  exact congrArg (fun S : Finset (Idx ((M.slice r hr).view.loc (d : Thread nD τ))) =>
    ((M.slice r hr).view.loc (d : Thread nD τ) ↦[S]{q} f : sProp 𝕄)) (Memref.set_view_squeeze (M.slice r hr) hq)

/-- A slice owned is the squeezed slice owned. -/
theorem some_squeeze : (some' d (M.slice r hr) : sProp 𝕄) ⊢ some' d ((M.slice r hr).squeeze s' hq) := by
  iintro H
  ihave H' := (some_elim d (M.slice r hr)) $$ H
  icases H' with ⟨%f, H⟩
  iexists _
  iapply (at_intro d ((M.slice r hr).squeeze s' hq) (f := f) rfl)
  iapply (Entails.of_eq (part_squeeze d (hq := hq) fullShare f).symm)
  iexact H

/-- A squeezed slice owned at `X` is the slice owned at `X` reshaped. -/
theorem at_unsqueeze (X : s'.Idx → Elt F e) (hc : s'.ShapeCasts r.shape) :
    at' d ((M.slice r hr).squeeze s' hq) X ⊢ at' d (M.slice r hr) (shapeCast r.shape X hc) := by
  iintro H
  ihave H' := (at_elim d ((M.slice r hr).squeeze s' hq) X) $$ H
  icases H' with ⟨%f, %hf, H⟩
  have hv : (M.slice r hr).view.read (Elt F) f = shapeCast r.shape X hc := by
    rw [← hf, Memref.read_squeeze_slice M r hr hq hq.numel_eq f, shapeCast_shapeCast]
    rfl
  iapply (at_intro d (M.slice r hr) hv)
  iapply (Entails.of_eq (part_squeeze d (hq := hq) fullShare f))
  iexact H

theorem some_unsqueeze : (some' d ((M.slice r hr).squeeze s' hq) : sProp 𝕄) ⊢ some' d (M.slice r hr) := by
  iintro ⟨%X, H⟩
  ihave H' := (at_unsqueeze d X hq.numel_eq.symm) $$ H
  iexists _; iexact H'

end Squeeze

/-! ### A whole buffer and its tiles -/

section Tiles

variable (b : Ref sig .tc) {T : Type} [Fintype T] [DecidableEq T] (R : Tiling b.ty.shape T)

/-- A buffer owned is each of its tiles owned. -/
theorem split_tiles : iprop(∃ f : b.ty.Contents (Elt F), (d : Thread nD τ).loc b ↦{fullShare} f)
    ⊢ (bigSep Finset.univ fun t => some' d ((Memref.whole b).slice (R.r t) (R.one t)) : sProp 𝕄) := by
  iintro ⟨%f, H⟩
  ihave H' := (Entails.of_eq (owns_whole (Val := Elt F) (d : Thread nD τ) b fullShare f).symm) $$ H
  ihave H2 := (owns_rects (d : Thread nD τ) (Memref.whole b) fullShare R.r R.one R.disj R.cover f) $$ H'
  iapply (show _ ⊢ (bigSep Finset.univ fun t => some' d ((Memref.whole b).slice (R.r t) (R.one t)) : sProp 𝕄) from
    bigSep_mono fun t _ => some_intro d ((Memref.whole b).slice (R.r t) (R.one t)) (fun j => f ((R.r t).emb j)))
  iexact H2

/-- Each tile owned is the buffer owned. -/
theorem join_tiles : (bigSep Finset.univ fun t => some' d ((Memref.whole b).slice (R.r t) (R.one t)) : sProp 𝕄)
    ⊢ iprop(∃ f : b.ty.Contents (Elt F), (d : Thread nD τ).loc b ↦{fullShare} f) := by
  have hs : ((Finset.univ : Finset T).biUnion fun t => (((Memref.whole b).slice (R.r t) (R.one t)).view.set : Finset b.ty.Idx))
      = (Finset.univ : Finset b.ty.Idx) := by
    rw [← View.set_whole b]
    ext i
    rw [Finset.mem_biUnion]
    constructor
    · rintro ⟨t, -, h⟩; exact View.set_slice_subset _ _ h
    · intro h
      rw [View.set, Finset.mem_map] at h
      obtain ⟨x, -, rfl⟩ := h
      obtain ⟨t, -, ht⟩ := Finset.mem_biUnion.mp (R.cover.symm ▸ Finset.mem_univ x)
      exact ⟨t, Finset.mem_univ _, by
        show _ ∈ (View.slice _ _).set
        rw [View.set_slice]; exact Finset.mem_map_of_mem _ ht⟩
  refine (bigSep_mono fun t _ => some_elim d ((Memref.whole b).slice (R.r t) (R.one t))).trans ?_
  refine (BI.bigSep_exists_pi (Finset.univ : Finset T) _).trans ?_
  iintro ⟨%fs, H⟩
  ihave H' := (pointsTo_biUnion_join (ℓ := (d : Thread nD τ).loc b) (q := fullShare) (Finset.univ : Finset T)
    (fun t => (((Memref.whole b).slice (R.r t) (R.one t)).view.set : Finset b.ty.Idx)) fs (fun _ => Classical.arbitrary _)
    (fun t _ t' _ h => View.disjoint_slice (v := View.whole b) (R.disj t t' h))) $$ H
  icases H' with ⟨%g, -, H⟩
  iexists g
  rw [hs]
  iexact H

/-- Each tile owned at its part of `X` is the buffer at `X`. -/
theorem join_tiles_at (X : b.ty.Contents (Elt F)) :
    (bigSep Finset.univ fun t => at' d ((Memref.whole b).slice (R.r t) (R.one t)) (fun j => X ((R.r t).emb j)))
      ⊢ ((d : Thread nD τ).loc b ↦{fullShare} X : sProp 𝕄) :=
  (owns_of_rects (d : Thread nD τ) (Memref.whole b) fullShare R.r R.one R.disj R.cover X).trans
    (Entails.of_eq (owns_whole (Val := Elt F) (d : Thread nD τ) b fullShare X))

end Tiles

/-! ### The tilings -/

/-- The two slots of the stage buffer. -/
def stTiles : Tiling S2x1024x1024 (Fin 2) where
  r := stRect
  one _ _ := rfl
  disj t t' h := Rect.unit_disjoint 0 (show t.val + 1 ≤ t'.val ∨ t'.val + 1 ≤ t.val by have := Fin.val_ne_of_ne h; omega)
  cover := by
    ext i
    simp only [Finset.mem_biUnion, Finset.mem_univ, true_and, iff_true]
    refine ⟨i 0, Rect.mem_set_unit.mpr fun a => ?_⟩
    match a with
    | ⟨0, _⟩ => exact ⟨le_rfl, Nat.lt_succ_self _⟩
    | ⟨1, _⟩ => exact ⟨Nat.zero_le _, by have := (i 1).isLt; simpa using this⟩
    | ⟨2, _⟩ => exact ⟨Nat.zero_le _, by have := (i 2).isLt; simpa using this⟩

/-- The two slots of the output buffer. -/
def obTiles : Tiling S2x1024x512 (Fin 2) where
  r := obRect
  one _ _ := rfl
  disj t t' h := Rect.unit_disjoint 0 (show t.val + 1 ≤ t'.val ∨ t'.val + 1 ≤ t.val by have := Fin.val_ne_of_ne h; omega)
  cover := by
    ext i
    simp only [Finset.mem_biUnion, Finset.mem_univ, true_and, iff_true]
    refine ⟨i 0, Rect.mem_set_unit.mpr fun a => ?_⟩
    match a with
    | ⟨0, _⟩ => exact ⟨le_rfl, Nat.lt_succ_self _⟩
    | ⟨1, _⟩ => exact ⟨Nat.zero_le _, by have := (i 1).isLt; simpa using this⟩
    | ⟨2, _⟩ => exact ⟨Nat.zero_le _, by have := (i 2).isLt; simpa using this⟩

/-- The four slots of the buffer for `w`. -/
def wbTiles : Tiling S4x1024x512 (Fin 4) where
  r := wbRect
  one _ _ := rfl
  disj t t' h := Rect.unit_disjoint 0 (show t.val + 1 ≤ t'.val ∨ t'.val + 1 ≤ t.val by have := Fin.val_ne_of_ne h; omega)
  cover := by
    ext i
    simp only [Finset.mem_biUnion, Finset.mem_univ, true_and, iff_true]
    refine ⟨i 0, Rect.mem_set_unit.mpr fun a => ?_⟩
    match a with
    | ⟨0, _⟩ => exact ⟨le_rfl, Nat.lt_succ_self _⟩
    | ⟨1, _⟩ => exact ⟨Nat.zero_le _, by have := (i 1).isLt; simpa using this⟩
    | ⟨2, _⟩ => exact ⟨Nat.zero_le _, by have := (i 2).isLt; simpa using this⟩

/-- The four quarters of the device's rows. -/
def xTiles : Tiling S1024x4096 (Fin 4) where
  r := xRect
  one _ _ := rfl
  disj t t' h := Rect.unit_disjoint 1
    (show 1024 * t.val + 1024 ≤ 1024 * t'.val ∨ 1024 * t'.val + 1024 ≤ 1024 * t.val by have := Fin.val_ne_of_ne h; omega)
  cover := by
    ext i
    simp only [Finset.mem_biUnion, Finset.mem_univ, true_and, iff_true]
    have h1 : (i 1).val < 4096 := (i 1).isLt
    refine ⟨⟨(i 1).val / 1024, by omega⟩, Rect.mem_set_unit.mpr fun a => ?_⟩
    match a with
    | ⟨0, _⟩ => exact ⟨Nat.zero_le _, by have := (i 0).isLt; simpa using this⟩
    | ⟨1, _⟩ =>
      show 1024 * ((i 1).val / 1024) ≤ (i 1).val ∧ (i 1).val < 1024 * ((i 1).val / 1024) + 1024
      omega

/-- The twelve blocks of the buffers for sending and receiving. -/
def sbTiles : Tiling S3x1024x2048 (Fin 3 × Fin 4) where
  r p := sbRect p.1 p.2
  one _ _ := rfl
  disj t t' h := by
    by_cases h1 : t.1 = t'.1
    · have h2 : t.2.val ≠ t'.2.val := fun h2 => h (Prod.ext h1 (Fin.ext h2))
      exact Rect.unit_disjoint 2
        (show 512 * t.2.val + 512 ≤ 512 * t'.2.val ∨ 512 * t'.2.val + 512 ≤ 512 * t.2.val by omega)
    · have := Fin.val_ne_of_ne h1
      exact Rect.unit_disjoint 0 (show t.1.val + 1 ≤ t'.1.val ∨ t'.1.val + 1 ≤ t.1.val by omega)
  cover := by
    ext i
    simp only [Finset.mem_biUnion, Finset.mem_univ, true_and, iff_true]
    have h2 : (i 2).val < 2048 := (i 2).isLt
    refine ⟨(i 0, ⟨(i 2).val / 512, by omega⟩), Rect.mem_set_unit.mpr fun a => ?_⟩
    match a with
    | ⟨0, _⟩ => exact ⟨le_rfl, Nat.lt_succ_self _⟩
    | ⟨1, _⟩ => exact ⟨Nat.zero_le _, by have := (i 1).isLt; simpa using this⟩
    | ⟨2, _⟩ =>
      show 512 * ((i 2).val / 512) ≤ (i 2).val ∧ (i 2).val < 512 * ((i 2).val / 512) + 512
      omega

theorem oOff_eq (d : Dev nD) (b : Fin 4) : oOff d b = ![d.val, 0, 512 * b.val] := by
  funext a; revert d b a; decide
theorem fOff_eq (d : Dev nD) (r : Fin 3) (h : Fin 2) : fOff d r h = ![(srcOf d r).val, 0, 1024 * h.val] := by
  funext a; revert d r h a; decide
theorem srcOf_inj (d : Dev nD) (r r' : Fin 3) (h : srcOf d r = srcOf d r') : r = r' := by revert d r r'; decide
theorem srcOf_ne (d : Dev nD) (r : Fin 3) : srcOf d r ≠ d := by revert d r; decide
theorem partOf_srcOf (d : Dev nD) (r : Fin 3) : partOf d (srcOf d r) = r := by revert d r; decide
theorem srcOf_partOf (d p : Dev nD) (h : p ≠ d) : srcOf d (partOf d p) = p := by revert d p; decide

/-- The result as the device's four own blocks and the two halves of each received part. -/
abbrev oTileRect (d : Dev nD) : Fin 4 ⊕ Fin 3 × Fin 2 → Rect S4x1024x2048
  | .inl b => oRect d b
  | .inr p => fRect d p.1 p.2

def oTiles (d : Dev nD) : Tiling S4x1024x2048 (Fin 4 ⊕ Fin 3 × Fin 2) where
  r := oTileRect d
  one t _ := by cases t <;> rfl
  disj t t' h := by
    rcases t with b | ⟨r, k⟩ <;> rcases t' with b' | ⟨r', k'⟩
    · have hb : b.val ≠ b'.val := fun e => h (congrArg Sum.inl (Fin.ext e))
      refine Rect.unit_disjoint 2 ?_
      rw [oOff_eq, oOff_eq]
      show 512 * b.val + 512 ≤ 512 * b'.val ∨ 512 * b'.val + 512 ≤ 512 * b.val
      omega
    · have hn := Fin.val_ne_of_ne (srcOf_ne d r')
      refine Rect.unit_disjoint 0 ?_
      rw [oOff_eq, fOff_eq]
      show d.val + 1 ≤ (srcOf d r').val ∨ (srcOf d r').val + 1 ≤ d.val
      omega
    · have hn := Fin.val_ne_of_ne (srcOf_ne d r)
      refine Rect.unit_disjoint 0 ?_
      rw [oOff_eq, fOff_eq]
      show (srcOf d r).val + 1 ≤ d.val ∨ d.val + 1 ≤ (srcOf d r).val
      omega
    · by_cases hr : r = r'
      · subst hr
        have hk : k.val ≠ k'.val := fun e => h (by rw [Fin.ext e])
        refine Rect.unit_disjoint 2 ?_
        rw [fOff_eq, fOff_eq]
        show 1024 * k.val + 1024 ≤ 1024 * k'.val ∨ 1024 * k'.val + 1024 ≤ 1024 * k.val
        omega
      · have hn : (srcOf d r).val ≠ (srcOf d r').val := fun e => hr (srcOf_inj d r r' (Fin.ext e))
        refine Rect.unit_disjoint 0 ?_
        rw [fOff_eq, fOff_eq]
        show (srcOf d r).val + 1 ≤ (srcOf d r').val ∨ (srcOf d r').val + 1 ≤ (srcOf d r).val
        omega
  cover := by
    ext i
    simp only [Finset.mem_biUnion, Finset.mem_univ, true_and, iff_true]
    have h2 : (i 2).val < 2048 := (i 2).isLt
    by_cases h0 : i 0 = d
    · refine ⟨.inl ⟨(i 2).val / 512, by omega⟩, Rect.mem_set_unit.mpr fun a => ?_⟩
      rw [oOff_eq]
      match a with
      | ⟨0, _⟩ =>
        show d.val ≤ (i 0).val ∧ (i 0).val < d.val + 1
        rw [h0]; omega
      | ⟨1, _⟩ => exact ⟨Nat.zero_le _, by have := (i 1).isLt; simpa using this⟩
      | ⟨2, _⟩ =>
        show 512 * ((i 2).val / 512) ≤ (i 2).val ∧ (i 2).val < 512 * ((i 2).val / 512) + 512
        omega
    · refine ⟨.inr (partOf d (i 0), ⟨(i 2).val / 1024, by omega⟩), Rect.mem_set_unit.mpr fun a => ?_⟩
      rw [fOff_eq]
      match a with
      | ⟨0, _⟩ =>
        show (srcOf d (partOf d (i 0))).val ≤ (i 0).val ∧ (i 0).val < (srcOf d (partOf d (i 0))).val + 1
        rw [srcOf_partOf d (i 0) h0]; omega
      | ⟨1, _⟩ => exact ⟨Nat.zero_le _, by have := (i 1).isLt; simpa using this⟩
      | ⟨2, _⟩ =>
        show 1024 * ((i 2).val / 1024) ≤ (i 2).val ∧ (i 2).val < 1024 * ((i 2).val / 1024) + 1024
        omega

end Cert.KernelIdeal.Run

end
-- ==== Proof.Vals.lean ====
/- What the receive buffer and the result read at each of their parts. -/
module

public import proofs.«01_k».proof.Proof.Split

@[expose] public section

noncomputable section

namespace Cert.KernelIdeal.Run

open Idealize.ShloMosaic Idealize.ShloMosaic.TcCoe
open Idealize.SL
open Idealize.ShloMosaic.Rounds Idealize.ShloMosaic.ValueIdx
open Cert.KernelIdeal Cert.KernelIdeal.Gen

variable {F : FTy → Type} [FloatOps F]

variable (m : (ℓ : Loc nD τ sig) → Buf (Elt F) ℓ) (d : Dev nD)

/-- Column `j` of block `b`. -/
theorem beside_at {α : Type} (f : Fin 4 → S1024x512.Idx → α) (i : Fin 1024) (b : Fin 4) (j : Fin 512) (c : Fin 2048)
    (hc : c.val = 512 * b.val + j.val) : beside f i c = f b (ix2 i j) := by
  have hb : (⟨c.val / 512, by omega⟩ : Fin 4) = b := Fin.ext (by show c.val / 512 = b.val; omega)
  have hj : (⟨c.val % 512, Nat.mod_lt _ (by decide)⟩ : Fin 512) = j := Fin.ext (by show c.val % 512 = j.val; omega)
  unfold beside
  rw [hb, hj]

/-- A matrix with a leading unit axis. -/
theorem add_apply {α : Type} {a b : Nat} (v : (⟨2, ![a, b]⟩ : Shape).Idx → α)
    (h : (⟨2, ![a, b]⟩ : Shape).ShapeCasts ⟨3, ![1, a, b]⟩) (j : (⟨3, ![1, a, b]⟩ : Shape).Idx) :
    shapeCast ⟨3, ![1, a, b]⟩ v h j = v (ix2 (j 1) (j 2)) :=
  (shapeCast_addUnit_apply ![a, b] v h j).trans (congrArg v (eq_ix2 _))

/-- A matrix without its leading unit axis. -/
theorem drop_apply {α : Type} {a b : Nat} (v : (⟨3, ![1, a, b]⟩ : Shape).Idx → α)
    (h : (⟨3, ![1, a, b]⟩ : Shape).ShapeCasts ⟨2, ![a, b]⟩) (i : Fin a) (k : Fin b) :
    shapeCast ⟨2, ![a, b]⟩ v h (ix2 i k) = v (ix3 0 i k) :=
  (shapeCast_dropUnit_apply ![a, b] v h (ix2 i k)).trans (congrArg v (Shape.idx3_ext rfl rfl rfl))

/-- A block under the rectangle of its slot. -/
theorem rVal_tile (r : Fin 3) (b : Fin 4) :
    shapeCast S1x1024x512 (sVal m (srcOf d r) r b) shapeCasts_S1024x512_S1x1024x512
      = fun j => rVal m d ((sbRect r b).emb j) := by
  funext j
  have h0 : (sbRect r b).emb j 0 = r := Fin.ext (by
    have : (j 0).val < 1 := (j 0).isLt
    show r.val + 1 * (j 0).val = r.val; omega)
  have h1 : (sbRect r b).emb j 1 = (j 1 : Fin 1024) := Fin.ext (by show 0 + 1 * (j 1).val = (j 1).val; omega)
  have hb := beside_at (fun b' => sVal m (srcOf d ((sbRect r b).emb j 0)) ((sbRect r b).emb j 0) b') ((sbRect r b).emb j 1)
    b (j 2) ((sbRect r b).emb j 2) (by show 512 * b.val + 1 * (j 2).val = _; omega)
  rw [h0, h1] at hb
  refine (add_apply _ _ j).trans (hb.symm.trans ?_)
  unfold rVal
  rw [h0, h1]

/-- An own block under the rectangle of its window. -/
theorem outVal_own (b : Fin 4) :
    shapeCast S1x1024x512 (oVal m d b) shapeCasts_S1024x512_S1x1024x512
      = fun j => outVal m d ((oRect d b).emb j) := by
  funext j
  have hv (a : Fin 3) : ((oRect d b).emb j a).val = (![d.val, 0, 512 * b.val] : Fin 3 → ℕ) a + 1 * (j a).val := by
    rw [← oOff_eq]; rfl
  have h0 : ((oRect d b).emb j 0).val = d.val := by
    have h := hv 0
    have : (j 0).val < 1 := (j 0).isLt
    rw [h]; show d.val + 1 * (j 0).val = d.val; omega
  have h1 : (oRect d b).emb j 1 = (j 1 : Fin 1024) := Fin.ext (by rw [hv 1]; show 0 + 1 * (j 1).val = (j 1).val; omega)
  have hb := beside_at (fun b => oVal m d b) ((oRect d b).emb j 1) b (j 2) ((oRect d b).emb j 2)
    (by rw [hv 2]; show 512 * b.val + 1 * (j 2).val = _; omega)
  rw [h1] at hb
  refine (add_apply _ _ j).trans (hb.symm.trans ?_)
  unfold outVal
  rw [if_pos h0, h1]

/-- A received half under the rectangle of its window. -/
theorem outVal_far (r : Fin 3) (h : Fin 2) :
    shapeCast S1x1024x1024 (fVal m d r h) shapeCasts_S1024x1024_S1x1024x1024
      = fun j => outVal m d ((fRect d r h).emb j) := by
  funext j
  have hv (a : Fin 3) : ((fRect d r h).emb j a).val = (![(srcOf d r).val, 0, 1024 * h.val] : Fin 3 → ℕ) a + 1 * (j a).val := by
    rw [← fOff_eq]; rfl
  have h0 : (fRect d r h).emb j 0 = srcOf d r := Fin.ext (by
    have e := hv 0
    have : (j 0).val < 1 := (j 0).isLt
    rw [e]; show (srcOf d r).val + 1 * (j 0).val = (srcOf d r).val; omega)
  have h1 : (fRect d r h).emb j 1 = (j 1 : Fin 1024) := Fin.ext (by rw [hv 1]; show 0 + 1 * (j 1).val = (j 1).val; omega)
  have hne : ¬ ((fRect d r h).emb j 0).val = d.val := fun e => srcOf_ne d r (Fin.ext (by rw [← h0]; exact e))
  refine (add_apply _ _ j).trans ?_
  unfold outVal
  rw [if_neg hne]
  refine congrArg (FloatOps.extf (F := F) .f32 bitsLt_bf16_f32) ((drop_apply _ _ (j 1) (j 2)).trans (congrArg (rVal m d) ?_))
  rw [h0, partOf_srcOf]
  refine Shape.idx3_ext ?_ ?_ ?_
  · show r.val + 1 * 0 = r.val; omega
  · show 0 + 1 * (j 1).val = ((fRect d r h).emb j 1).val; rw [h1]; omega
  · show 1024 * h.val + 1 * (j 2).val = ((fRect d r h).emb j 2).val; rw [hv 2]; rfl

end Cert.KernelIdeal.Run

end
-- ==== Proof.Steps.lean ====
/- The rules of the kernel's own steps: the fetches of `x` and `w`, the barrier, the sends and the waits for them. -/
module

public import proofs.«01_k».proof.Proof.Vals

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ### Fetches from a buffer of which a share is held -/

section Fetch

variable (d : Dev nD) {α : Type} (b : Ref sig .tc) (r : Rect b.ty.shape) (hr : ∀ a, r.stride a = 1) {sp' : Space}
  (dst : Memref sig .tc sp' r.shape b.ty.elt) (s : DmaSem sig) (q : PosShare TreeShare) (f : b.ty.Contents (Elt F))

/-- A window of the buffer `b` on its way to `dst`, with the rest of the share. -/
def Fetching : sProp 𝕄 :=
  iprop(Fly d s dst.view.dmaCredit iprop(at' d dst (((Memref.whole b).slice r hr).view.read (Elt F) f)
      ∗ part d ((Memref.whole b).slice r hr) q f)
    ∗ ((d : Thread nD τ).loc b ↦[Finset.univ \ ((Memref.whole b).slice r hr).view.set]{q} f))

/-- The start of a fetch. -/
theorem fetch_start {Q : α → sProp 𝕄} {k : PUnit → P F α} {hsrc : ((Memref.whole b).slice r hr).view.WordExact} {hdst : dst.view.WordExact}
    {hsem : DmaTarget.Typed (nD := nD) (p := (.tc : Proc τ)) b.space (.dma s) (.here dst)} (hN0 : 0 < dst.view.dmaCredit) :
    iprop(((d : Thread nD τ).loc b ↦{q} f) ∗ some' d dst ∗ zero d s)
      ⊢ iprop((Fetching d b r hr dst s q f -∗ runs d (k ⟨⟩) Q)
          -∗ runs d (Prog.lift (.enqueueDma ((Memref.whole b).slice r hr) (.here dst) (.dma s) hsrc hdst hsem) >>= k) Q) := by
  iintro ⟨Hs, Hd, Hz⟩ Hk
  ihave Hs' := (pointsTo_split_subset (Finset.subset_univ ((Memref.whole b).slice r hr).view.set)).1 $$ Hs
  icases Hs' with ⟨Hs, Hrest⟩
  iapply (start_part d (src := (Memref.whole b).slice r hr) (q := q) f hN0) $$ [Hs Hd Hz]
  · isplitl [Hs]; · iexact Hs
    isplitl [Hd] <;> iassumption
  iintro HF
  iapply Hk
  unfold Fetching
  isplitl [HF] <;> iassumption

/-- The wait for it. -/
theorem fetch_wait {Q : α → sProp 𝕄} {k : PUnit → P F α} {hsrc : ((Memref.whole b).slice r hr).view.WordExact} {hdst : dst.view.WordExact}
    {O : CellTallies nD τ sig Unit} (hO : (levAts L lv : sProp 𝕄) ⊢ MayWait (d : Thread nD τ) (.dma s) () O) :
    iprop(levAts L lv ∗ Fetching d b r hr dst s q f ∗ owe d O)
      ⊢ iprop((iprop(((d : Thread nD τ).loc b ↦{q} f) ∗ at' d dst (((Memref.whole b).slice r hr).view.read (Elt F) f) ∗ zero d s ∗ owe d O)
            -∗ runs d (k ⟨⟩) Q)
          -∗ runs d (Prog.lift (.waitDma2 s ((Memref.whole b).slice r hr) dst hsrc hdst) >>= k) Q) := by
  unfold Fetching
  iintro ⟨Hl, ⟨HF, Hrest⟩, HO⟩ Hk
  iapply (wait_local d rfl hO) $$ [Hl HF HO]
  · isplitl [Hl]; · iexact Hl
    isplitl [HF] <;> iassumption
  iintro ⟨⟨Hd, Hs⟩, Hz, HO⟩
  iapply Hk
  isplitl [Hs Hrest]
  · iapply (pointsTo_split_subset (Finset.subset_univ ((Memref.whole b).slice r hr).view.set)).2
    isplitl [Hs] <;> iassumption
  isplitl [Hd]; · iexact Hd
  isplitl [Hz] <;> iassumption

end Fetch

/-! ### The cells' records -/

variable (K : Dev nD × CellIx → ℕ)

/-- The invariant of every cell of every device, and that each is at its first round. -/
def recs : sProp 𝕄 :=
  iprop((bigSep Finset.univ fun ck => cellInv ER (Rd (F := F) m) (K ck) (kcell ck))
    ∗ bigSep Finset.univ fun ck : Dev nD × CellIx => reached ER (kcell ck) 0)

instance recs_persistent : BI.Persistent (recs m K) := by unfold recs; infer_instance

theorem recs_inv (ck : Dev nD × CellIx) : recs m K ⊢ cellInv ER (Rd (F := F) m) (K ck) (kcell ck) := by
  unfold recs
  exact Laws.sep_elim_left.trans (bigSep_elim (Finset.mem_univ ck))
theorem recs_reached (ck : Dev nD × CellIx) : recs m K ⊢ reached ER (kcell ck) 0 := by
  unfold recs
  exact Laws.sep_elim_right.trans (bigSep_elim (Finset.mem_univ ck))

variable (d : Dev nD) {α : Type}

/-- A wait on a whole round of a cell, after which the cell is closed. -/
theorem wait_cell {Q : α → sProp 𝕄} {c : PUnit → P F α} (k : CellIx) {w : TpuEff nD τ sig (Elt F) Λ₀ .tc PUnit} {n : ℕ}
    (hw : ∀ R : PUnit → sProp 𝕄, wpE (defs₀ (F := F)) 𝒱₀ (d : Thread nD τ) none Set.univ w R = waitSpec (d : Thread nD τ) Set.univ (csem k) n R)
    (hn : n = (dutyOf k).card * amountOf k) {O : CellTallies nD τ sig Unit}
    (hO : (levAts L lv : sProp 𝕄) ⊢ MayWait (d : Thread nD τ) (csem k) () O) :
    iprop(recs m K ∗ levAts L lv ∗ cred (tallyAt (kcell (d, k)) () n) ∗ owe d O ∗ atPos ER (kcell (d, k)) 0 ∅ 0)
      ⊢ iprop((iprop(owe d O ∗ semVal (kcell (d, k)) 0 ∗ bigSep (dutyOf k) (fun r => pay m d k r)) -∗ runs d (c ⟨⟩) Q)
          -∗ runs d (Prog.lift w >>= c) Q) := by
  show _ ⊢ iprop(_ -∗ wp frame (wpE (defs₀ (F := F)) 𝒱₀ (d : Thread nD τ) none) Set.univ (.op w c) Q)
  unfold owe
  iintro ⟨#HR, #Hl, Hc, ⟨%W, HO⟩, Hat⟩ Hk
  ihave #HI := (recs_inv m K (d, k)) $$ HR
  iapply (Rounds.wp_wait_rest_token 𝒱₀ ER (Rd (F := F) m) (d : Thread nD τ) none (κ := K (d, k)) hw (Set.mem_univ _) ()
    (O := O) (W := W) (R := 0) (m := 0) (T := ∅) (by rw [Nat.zero_add, hn]; exact (expect_at m (d, k)).symm)) $$ [Hc HO Hat]
  · isplitr; · iexact HI
    isplitl [Hc]; · iexact Hc
    isplitl [HO]; · iexact HO
    isplitr; · iapply hO; iexact Hl
    iexact Hat
  iintro ⟨HO, Hat, -, Hp⟩
  ihave Hp' := (Entails.of_eq (rest_at m (d, k))) $$ Hp
  imod (Rounds.cell_close ER (Rd (F := F) m) (Set.mem_univ (K (d, k))) (fun h => h) (R := 0 + 1) (duties_later m (kcell (d, k)))) $$ [Hat] with Hz
  · isplitr; · iexact HI
    iexact Hat
  iapply Hk
  isplitl [HO]; · iexists _; iexact HO
  isplitl [Hz] <;> iassumption

/-- A barrier signal, handing over the slots of part `j.rev` of the receive buffer. -/
theorem signal_bar {Q : α → sProp 𝕄} {c : PUnit → P F α} (j : Fin 3) {O₁ : CellTallies nD τ sig Unit} (O : CellTallies nD τ sig Unit)
    (hO : O₁ = O + tallyAt (barCell (signalTo d j)) () 1) :
    iprop(recs m K ∗ owe d O₁ ∗ dutyTok ER (barCell (signalTo d j)) 0 j.rev ∗ bigSep Finset.univ fun b : Fin 4 => some' d (rbSl j.rev b))
      ⊢ iprop((owe d O -∗ runs d (c ⟨⟩) Q) -∗ runs d (semSignalWord (signalTo d j) bar 1#32 >>= c) Q) := by
  show _ ⊢ iprop(_ -∗ wp frame (wpE (defs₀ (F := F)) 𝒱₀ (d : Thread nD τ) none) Set.univ (.op (.semSignal (signalTo d j : Thread nD τ) bar 1) c) Q)
  have hp : (bigSep Finset.univ fun b : Fin 4 => (some' d (rbSl j.rev b) : sProp 𝕄))
      ⊢ (Rd (F := F) m).payload (kcell (signalTo d j, none)) 0 j.rev := by
    rw [payload_at]
    show _ ⊢ bigSep Finset.univ fun b : Fin 4 => some' (sendTo (signalTo d j) j.rev) (rbSl j.rev b)
    rw [sendTo_signalTo]
  unfold owe
  iintro ⟨#HR, ⟨%W, HO⟩, Ht, Hp⟩ Hk
  iapply (Rounds.wp_signal 𝒱₀ ER (Rd (F := F) m) (d : Thread nD τ) none (dst := (signalTo d j : Thread nD τ)) (sem := bar) (r := 0)
    (κ := K (signalTo d j, none)) (d := j.rev)
    (by rw [show ((signalTo d j : Thread nD τ), SemLoc.reg bar) = kcell (signalTo d j, none) from rfl, duties_at]; exact Finset.mem_univ _)
    (amount_at m (signalTo d j, none) j.rev) () O hO) $$ [HO Ht Hp]
  · isplitr; · iapply (recs_inv m K (signalTo d j, none)); iexact HR
    isplitl [HO]; · iexact HO
    isplitl [Ht]; · iexact Ht
    isplitl [Hp]
    · iapply hp; iexact Hp
    · iapply (recs_reached m K (signalTo d j, none)); iexact HR
  iintro HO
  iapply Hk
  iexists _; iexact HO

/-- The start of a send. -/
theorem send_start {Q : α → sProp 𝕄} {c : PUnit → P F α} (r : Fin 3) (b : Fin 4) {O₁ : CellTallies nD τ sig Unit} (O : CellTallies nD τ sig Unit)
    (hO : O₁ = O + tallyAt (recvCell (sendTo d r) r b) () N) :
    iprop(recs m K ∗ at' d (sbSl r b) (sVal m d r b) ∗ some' (sendTo d r) (rbSl r b) ∗ owe d O₁
        ∗ dutyTok ER (sendCell d r b) 0 0 ∗ dutyTok ER (recvCell (sendTo d r) r b) 0 0)
      ⊢ iprop((iprop(cred (tallyAt (sendCell d r b) () N) ∗ owe d O) -∗ runs d (c ⟨⟩) Q) -∗ runs d (startSend d r b >>= c) Q) := by
  show _ ⊢ iprop(_ -∗ wp frame (wpE (defs₀ (F := F)) 𝒱₀ (d : Thread nD τ) none) Set.univ
    (.op (.enqueueDma (sbSl r b) (.remote (Dev.tc (sendTo d r)) (rbSl r b) (.dma (sSem r b))) (.dma (rSem r b)) _ _ _) c) Q)
  unfold owe
  iintro ⟨#HR, Hs, Hd, ⟨%W, HO⟩, Ht, Ht'⟩ Hk
  ihave Hs' := (at_elim d (sbSl r b) (sVal m d r b)) $$ Hs
  icases Hs' with ⟨%fs, %hfs, Hs⟩
  ihave Hd' := (some_elim (sendTo d r) (rbSl r b)) $$ Hd
  icases Hd' with ⟨%fd, Hd⟩
  iapply (Rounds.wp_send_pointsTo 𝒱₀ ER (Rd (F := F) m) (d : Thread nD τ) none (c' := (sendTo d r : Thread nD τ)) (src := sbSl r b)
    (dst := rbSl r b) (κ₁ := K (d, some (false, r, b))) (κ₂ := K (sendTo d r, some (true, r, b)))
    (r₁ := 0) (r₂ := 0) (d₁ := 0) (d₂ := 0) (fs := fs) (fd := fd)
    (by rw [show ((d : Thread nD τ), SemLoc.dma (sSem r b)) = kcell (d, some (false, r, b)) from rfl, duties_at]; exact Finset.mem_singleton_self _)
    (by rw [show ((sendTo d r : Thread nD τ), SemLoc.dma (rSem r b)) = kcell (sendTo d r, some (true, r, b)) from rfl, duties_at]; exact Finset.mem_singleton_self _)
    () () N rfl (amount_at m (d, some (false, r, b)) 0) (amount_at m (sendTo d r, some (true, r, b)) 0) O hO (W := W)
    ((at_intro d (sbSl r b) (X := sVal m d r b) hfs).trans ((some_intro d (sbSl r b) _).trans (Entails.of_eq (payload_at m (d, some (false, r, b)) 0).symm)))
    ((at_intro (sendTo d r) (rbSl r b) (X := sVal m d r b) (by rw [View.read_write_univ, hfs])).trans (Entails.of_eq (by
      refine Eq.trans ?_ (payload_at m (sendTo d r, some (true, r, b)) 0).symm
      show _ = at' (sendTo d r) (rbSl r b) (sVal m (srcOf (sendTo d r) r) r b)
      rw [srcOf_sendTo])))) $$ [Hs Hd HO Ht Ht']
  · isplitr; · iapply (recs_inv m K (d, some (false, r, b))); iexact HR
    isplitr; · iapply (recs_inv m K (sendTo d r, some (true, r, b))); iexact HR
    isplitl [Hs]; · iexact Hs
    isplitl [Hd]; · iexact Hd
    isplitl [HO]; · iexact HO
    isplitl [Ht]; · iexact Ht
    isplitr; · iapply (recs_reached m K (d, some (false, r, b))); iexact HR
    isplitl [Ht']; · iexact Ht'
    iapply (recs_reached m K (sendTo d r, some (true, r, b))); iexact HR
  iintro ⟨Hc, HO⟩
  iapply Hk
  isplitl [Hc]; · iexact Hc
  iexists _; iexact HO

end Cert.KernelIdeal.Run

end
-- ==== Proof.Product.lean ====
/- The fetches of `w` and `x`, the rounding of the device's rows and the product of one block. -/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (d : Dev nD) {α : Type}

/-- A wait on any of the device's own level-0 semaphores is below `O`. -/
def Low (F : FTy → Type) [FloatOps F] (d : Dev nD) (O : CellTallies nD τ sig Unit) : Prop :=
  ∀ s : DmaSem sig, lv ((d : Thread nD τ), .dma s) () = 0 →
    (levAts L lv : sProp (MT nD τ sig Unit (Elt F) ℕ UU ℕ)) ⊢ MayWait (d : Thread nD τ) (.dma s) () O

/-- A program that ends. -/
theorem ret_run {Q : α → sProp 𝕄} {a : α} : Q a ⊢ runs d (Prog.ret a) Q := by
  unfold runs
  rw [wp_ret]
  exact fupd_intro

/-- A program's last step. -/
theorem last_run {Q : α → sProp 𝕄} {w : TpuEff nD τ sig (Elt F) Λ₀ .tc α} :
    runs d (Prog.lift w >>= Prog.ret) Q ⊢ runs d (Prog.lift w) Q := .rfl

theorem low_owedR (S : Finset (Fin 3 × Fin 4)) : Low F d (owedR d S) := fun s hs => mayWait_lowR d s hs S

theorem lv_wSem (k : Fin 4) : lv ((d : Thread nD τ), .dma (wSem k)) () = 0 := lv_local d _ (by rw [wSem_val]; omega)
theorem lv_oSem (k : Fin 2) : lv ((d : Thread nD τ), .dma (oSem k)) () = 0 := lv_local d _ (by rw [oSem_val]; omega)
theorem lv_tSem (k : Fin 2) : lv ((d : Thread nD τ), .dma (tSem k)) () = 0 := lv_local d _ (by rw [tSem_val]; omega)

/-! ### The windows of `w` -/

/-- The share of `w` that slot `k` fetches from. -/
abbrev wShare (k : Fin 4) : sProp 𝕄 := (d : Thread nD τ).loc main_arg1 ↦{Transfers.shareTok fullShare 4 k} mw m d
/-- Slot `k` free. -/
def wIdle (k : Fin 4) : sProp 𝕄 := iprop(wShare m d k ∗ some' d (wbSl k) ∗ zero d (wSem k))
/-- Slot `k` waiting for the window of block `b` of part `c`. -/
def wBusy (c b k : Fin 4) : sProp 𝕄 :=
  Fetching d main_arg1 (wRect d c b k) (fun _ => rfl) (wbSl k) (wSem k) (Transfers.shareTok fullShare 4 k) (mw m d)
/-- Slot `k` holding it. -/
def wHave (c b k : Fin 4) : sProp 𝕄 := iprop(wShare m d k ∗ at' d (wbSl k) (wVal m d c b k) ∗ zero d (wSem k))

theorem wHave_idle (c b k : Fin 4) : wHave m d c b k ⊢ wIdle m d k := by
  unfold wHave wIdle
  iintro ⟨H1, H2, H3⟩
  isplitl [H1]; · iexact H1
  isplitl [H2]; · iapply (some_intro d (wbSl k) _); iexact H2
  iexact H3

theorem startW_run {Q : α → sProp 𝕄} {f : PUnit → P F α} (c b k : Fin 4) :
    wIdle m d k ⊢ iprop((wBusy m d c b k -∗ runs d (f ⟨⟩) Q) -∗ runs d (startW d c b k >>= f) Q) := by
  unfold wIdle wBusy
  exact fetch_start d main_arg1 (wRect d c b k) (fun _ => rfl) (wbSl k) (wSem k) (Transfers.shareTok fullShare 4 k) (mw m d)
    (View.dmaCredit_pos _ (show 0 < S1024x512.numel by decide))

theorem waitW_run {Q : α → sProp 𝕄} {f : PUnit → P F α} (c b k : Fin 4) {O : CellTallies nD τ sig Unit} (hO : Low F d O) :
    iprop(levAts L lv ∗ wBusy m d c b k ∗ owe d O)
      ⊢ iprop((iprop(wHave m d c b k ∗ owe d O) -∗ runs d (f ⟨⟩) Q) -∗ runs d (waitW d c b k >>= f) Q) := by
  unfold wBusy
  iintro H Hk
  iapply (fetch_wait d main_arg1 (wRect d c b k) (fun _ => rfl) (wbSl k) (wSem k) (Transfers.shareTok fullShare 4 k) (mw m d)
    (hO _ (lv_wSem d k))) $$ H
  iintro ⟨H1, H2, H3, HO⟩
  iapply Hk
  isplitr [HO]
  · unfold wHave
    isplitl [H1]; · iexact H1
    isplitl [H2]; · iexact H2
    iexact H3
  · iexact HO

theorem loadW_run {Q : α → sProp 𝕄} {f : Vec F S1x1024x512 .f32 → P F α} (c b k : Fin 4) :
    wHave m d c b k ⊢ iprop((wHave m d c b k -∗ runs d (f (shapeCast S1x1024x512 (wVal m d c b k) shapeCasts_S1024x512_S1x1024x512)) Q)
      -∗ runs d (loadW k >>= f) Q) := by
  unfold wHave
  iintro ⟨H1, H2, H3⟩ Hk
  iapply (load_slot d (M := wbM) (r := wbRect k) (hr := fun _ => rfl) (hq := squeezes_S1x1024x512_S1024x512) (wVal m d c b k)
    shapeCasts_S1024x512_S1x1024x512) $$ H2
  iintro H2
  iapply Hk
  isplitl [H1]; · iexact H1
  isplitl [H2] <;> iassumption

/-! ### The rows -/

abbrev xbSl (q : Fin 4) : Memref sig .tc .vmem S1024x1024 .bf16 := xbM.slice (xRect q) (fun _ => rfl)

/-- Quarter `q` of the rows, rounded, in its place. -/
abbrev xHave (q : Fin 4) : sProp 𝕄 := at' d (xbSl q) (xVal m d q)

theorem loadX_run {Q : α → sProp 𝕄} {f : Vec F S1024x1024 .bf16 → P F α} (q : Fin 4) :
    xHave m d q ⊢ iprop((xHave m d q -∗ runs d (f (xVal m d q)) Q) -∗ runs d (loadX q >>= f) Q) :=
  load_slice d (M := xbM) (r := xRect q) (hr := fun _ => rfl) (xVal m d q)

/-- All four. -/
def xAll : sProp 𝕄 := iprop(xHave m d 0 ∗ xHave m d 1 ∗ xHave m d 2 ∗ xHave m d 3)

/-- The share of `x` that stage slot `h` fetches from. -/
abbrev xShare (h : Fin 2) : sProp 𝕄 := (d : Thread nD τ).loc main_arg0 ↦{Transfers.shareTok fullShare 2 h} mx m d
/-- Stage slot `h` free. -/
def tIdle (h : Fin 2) : sProp 𝕄 := iprop(some' d (stSl h) ∗ zero d (tSem h))
def xBusy (q : Fin 4) (h : Fin 2) : sProp 𝕄 :=
  Fetching d main_arg0 (xRect q) (fun _ => rfl) (stSl h) (tSem h) (Transfers.shareTok fullShare 2 h) (mx m d)

theorem startX_run {Q : α → sProp 𝕄} {f : PUnit → P F α} (q : Fin 4) (h : Fin 2) :
    iprop(xShare m d h ∗ tIdle d h) ⊢ iprop((xBusy m d q h -∗ runs d (f ⟨⟩) Q) -∗ runs d (startX q h >>= f) Q) := by
  unfold tIdle xBusy
  exact fetch_start d main_arg0 (xRect q) (fun _ => rfl) (stSl h) (tSem h) (Transfers.shareTok fullShare 2 h) (mx m d)
    (View.dmaCredit_pos _ (show 0 < S1024x1024.numel by decide))

theorem xPay_eq (q : Fin 4) :
    xPay (shapeCast S1x1024x1024 (xRaw m d q) shapeCasts_S1024x1024_S1x1024x1024) = xVal m d q := by
  unfold xPay xVal
  rw [shapeCast_self, shapeCast_shapeCast]

/-- A quarter arrives and is stored rounded. -/
theorem convX_run {Q : PUnit → sProp 𝕄} (q : Fin 4) (h : Fin 2) {O : CellTallies nD τ sig Unit} (hO : Low F d O) :
    iprop(levAts L lv ∗ xBusy m d q h ∗ some' d (xbSl q) ∗ owe d O)
      ⊢ iprop((iprop(xShare m d h ∗ tIdle d h ∗ xHave m d q ∗ owe d O) -∗ Q ⟨⟩) -∗ runs d (convX q h) Q) := by
  unfold xBusy tIdle convX
  iintro ⟨Hl, HF, ⟨%X, Hx⟩, HO⟩ Hk
  iapply (fetch_wait d main_arg0 (xRect q) (fun _ => rfl) (stSl h) (tSem h) (Transfers.shareTok fullShare 2 h) (mx m d)
    (hO _ (lv_tSem d h))) $$ [Hl HF HO]
  · isplitl [Hl]; · iexact Hl
    isplitl [HF] <;> iassumption
  iintro ⟨Hs, Hst', Hz, HO⟩
  ihave Hst := (show at' d (stSl h) ((xWin q).view.read (Elt F) (mx m d)) ⊢ at' d (stSl h) (xRaw m d q) from .rfl) $$ Hst'
  iapply (load_slot d (M := stM) (r := stRect h) (hr := fun _ => rfl) (hq := squeezes_S1x1024x1024_S1024x1024) (xRaw m d q)
    shapeCasts_S1024x1024_S1x1024x1024) $$ Hst
  iintro Hst
  iapply (load_slice d (M := xbM) (r := xRect q) (hr := fun _ => rfl) X) $$ Hx
  iintro Hx
  ihave Hx' := (some_intro d (xbM.slice (xRect q) (fun _ => rfl)) X) $$ Hx
  iapply (last_run d)
  iapply (store_slice d (M := xbM) (r := xRect q) (hr := fun _ => rfl)
    (w := xPay (shapeCast S1x1024x1024 (xRaw m d q) shapeCasts_S1024x1024_S1x1024x1024))) $$ Hx'
  iintro Hx
  iapply (ret_run d)
  iapply Hk
  isplitl [Hs]; · iexact Hs
  isplitl [Hst Hz]
  · isplitl [Hst]; · iapply (some_intro d (stSl h) (xRaw m d q)); iexact Hst
    iexact Hz
  isplitl [Hx]
  · iapply (Entails.of_eq (congrArg (at' d (xbM.slice (xRect q) (fun _ => rfl))) (xPay_eq m d q)))
    iexact Hx
  iexact HO

/-! ### The product of a block -/

theorem dotPay_eq (xv : FVec F S1024x1024 .bf16) (wv : FVec F S1024x512 .f32) :
    dotPay xv (shapeCast S1x1024x512 wv shapeCasts_S1024x512_S1x1024x512) = dotV xv wv := by
  unfold dotPay dotV
  rw [shapeCast_shapeCast]

theorem sumPay_eq (c b : Fin 4) :
    sumPay (xVal m d 0) (xVal m d 1) (xVal m d 2) (xVal m d 3)
      (shapeCast S1x1024x512 (wVal m d c b 0) shapeCasts_S1024x512_S1x1024x512)
      (shapeCast S1x1024x512 (wVal m d c b 1) shapeCasts_S1024x512_S1x1024x512)
      (shapeCast S1x1024x512 (wVal m d c b 2) shapeCasts_S1024x512_S1x1024x512)
      (shapeCast S1x1024x512 (wVal m d c b 3) shapeCasts_S1024x512_S1x1024x512) = yVal m d c b := by
  unfold sumPay yVal
  rw [dotPay_eq, dotPay_eq, dotPay_eq, dotPay_eq]

/-- Slot `k` between two blocks: waiting for the next block's window, or free when there is none. -/
abbrev wNext (n : Option (Fin 4 × Fin 4)) (k : Fin 4) : sProp 𝕄 :=
  match n with
  | some n => wBusy m d n.1 n.2 k
  | none => wIdle m d k

/-- The slots before block `n`: the first two waiting for its windows, the last two free. -/
def wReady (n : Option (Fin 4 × Fin 4)) : sProp 𝕄 :=
  iprop(wNext m d n 0 ∗ wNext m d n 1 ∗ wIdle m d 2 ∗ wIdle m d 3)

/-- The product of block `b` of part `c`. -/
theorem product_run {Q : FVec F S1024x512 .f32 → sProp 𝕄} (c b : Fin 4) (n : Option (Fin 4 × Fin 4)) {O : CellTallies nD τ sig Unit}
    (hO : Low F d O) :
    iprop(levAts L lv ∗ wReady m d (some (c, b)) ∗ xAll m d ∗ owe d O)
      ⊢ iprop((iprop(wReady m d n ∗ xAll m d ∗ owe d O) -∗ Q (yVal m d c b)) -∗ runs d (product d c b n) Q) := by
  rw [← sumPay_eq]
  unfold wReady xAll product
  iintro ⟨#Hl, ⟨Hw0, Hw1, Hw2, Hw3⟩, ⟨Hx0, Hx1, Hx2, Hx3⟩, HO⟩ Hk
  iapply (waitW_run m d c b 0 hO) $$ [Hw0 HO]
  · isplitr; · iexact Hl
    isplitl [Hw0]; · iexact Hw0
    iexact HO
  iintro ⟨Hw0, HO⟩
  iapply (startW_run m d c b 2) $$ Hw2; iintro Hw2
  iapply (loadX_run m d 0) $$ Hx0; iintro Hx0
  iapply (loadW_run m d c b 0) $$ Hw0; iintro Hw0
  iapply (waitW_run m d c b 1 hO) $$ [Hw1 HO]
  · isplitr; · iexact Hl
    isplitl [Hw1]; · iexact Hw1
    iexact HO
  iintro ⟨Hw1, HO⟩
  iapply (startW_run m d c b 3) $$ Hw3; iintro Hw3
  iapply (loadX_run m d 1) $$ Hx1; iintro Hx1
  iapply (loadW_run m d c b 1) $$ Hw1; iintro Hw1
  iapply (waitW_run m d c b 2 hO) $$ [Hw2 HO]
  · isplitr; · iexact Hl
    isplitl [Hw2]; · iexact Hw2
    iexact HO
  iintro ⟨Hw2, HO⟩
  ihave Hw0 := (wHave_idle m d c b 0) $$ Hw0
  ihave Hw1 := (wHave_idle m d c b 1) $$ Hw1
  cases n with
  | some n =>
    iapply (startW_run m d n.1 n.2 0) $$ Hw0; iintro Hw0
    iapply (loadX_run m d 2) $$ Hx2; iintro Hx2
    iapply (loadW_run m d c b 2) $$ Hw2; iintro Hw2
    iapply (waitW_run m d c b 3 hO) $$ [Hw3 HO]
    · isplitr; · iexact Hl
      isplitl [Hw3] <;> iassumption
    iintro ⟨Hw3, HO⟩
    iapply (startW_run m d n.1 n.2 1) $$ Hw1; iintro Hw1
    iapply (loadX_run m d 3) $$ Hx3; iintro Hx3
    iapply (loadW_run m d c b 3) $$ Hw3; iintro Hw3
    ihave Hw2 := (wHave_idle m d c b 2) $$ Hw2
    ihave Hw3 := (wHave_idle m d c b 3) $$ Hw3
    iapply (ret_run d)
    iapply Hk
    isplitl [Hw0 Hw1 Hw2 Hw3]
    · isplitl [Hw0]; · iexact Hw0
      isplitl [Hw1]; · iexact Hw1
      isplitl [Hw2] <;> iassumption
    isplitr [HO]
    · isplitl [Hx0]; · iexact Hx0
      isplitl [Hx1]; · iexact Hx1
      isplitl [Hx2] <;> iassumption
    iexact HO
  | none =>
    iapply (loadX_run m d 2) $$ Hx2; iintro Hx2
    iapply (loadW_run m d c b 2) $$ Hw2; iintro Hw2
    iapply (waitW_run m d c b 3 hO) $$ [Hw3 HO]
    · isplitr; · iexact Hl
      isplitl [Hw3] <;> iassumption
    iintro ⟨Hw3, HO⟩
    iapply (loadX_run m d 3) $$ Hx3; iintro Hx3
    iapply (loadW_run m d c b 3) $$ Hw3; iintro Hw3
    ihave Hw2 := (wHave_idle m d c b 2) $$ Hw2
    ihave Hw3 := (wHave_idle m d c b 3) $$ Hw3
    iapply (ret_run d)
    iapply Hk
    isplitl [Hw0 Hw1 Hw2 Hw3]
    · isplitl [Hw0]; · iexact Hw0
      isplitl [Hw1]; · iexact Hw1
      isplitl [Hw2] <;> iassumption
    isplitr [HO]
    · isplitl [Hx0]; · iexact Hx0
      isplitl [Hx1]; · iexact Hx1
      isplitl [Hx2] <;> iassumption
    iexact HO

end Cert.KernelIdeal.Run

end
-- ==== Proof.Blocks.lean ====
/- The parts of the kernel's body: the blocks sent, the blocks kept, the parts received and the waits for the sends. -/
module

public import proofs.«01_k».proof.Proof.Product

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × CellIx → ℕ) (d : Dev nD) {α : Type}

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ### The blocks sent -/

/-- The blocks from the `n`-th on, in the order in which they are sent. -/
def unsent (n : ℕ) : Finset (Fin 3 × Fin 4) := Finset.univ.filter fun p => n ≤ 4 * p.1.val + p.2.val

theorem unsent_zero : unsent 0 = Finset.univ := by decide
theorem unsent_all : unsent 12 = ∅ := by decide
theorem unsent_erase (c : Fin 3) (b : Fin 4) : (unsent (4 * c.val + b.val)).erase (c, b) = unsent (4 * c.val + b.val + 1) := by
  revert c b; decide
theorem unsent_mem (c : Fin 3) (b : Fin 4) : (c, b) ∈ unsent (4 * c.val + b.val) := by revert c b; decide

/-- What sending block `b` of part `c` takes: the two slots and the duties of the two cells. -/
def toSend (c : Fin 3) (b : Fin 4) : sProp 𝕄 :=
  iprop(some' d (sbSl c b) ∗ some' (sendTo d c) (rbSl c b) ∗ dutyTok ER (sendCell d c b) 0 (0 : Fin 3)
    ∗ dutyTok ER (recvCell (sendTo d c) c b) 0 (0 : Fin 3))

theorem sendPay_eq (c : Fin 3) (b : Fin 4) :
    shapeCast S1024x512 (sendPay (yVal m d (far c) b)) shapeCasts_S1x1024x512_S1024x512 = sVal m d c b := by
  unfold sendPay sVal
  rw [shapeCast_shapeCast]

theorem sendBlk_run {Q : PUnit → sProp 𝕄} (c : Fin 3) (b : Fin 4) (n : Fin 4 × Fin 4) :
    iprop(recs m K ∗ levAts L lv ∗ wReady m d (some (far c, b)) ∗ xAll m d ∗ owe d (owedR d (unsent (4 * c.val + b.val))) ∗ toSend d c b)
      ⊢ iprop((iprop(wReady m d (some n) ∗ xAll m d ∗ owe d (owedR d (unsent (4 * c.val + b.val + 1)))
              ∗ cred (tallyAt (sendCell d c b) () N)) -∗ Q ⟨⟩)
          -∗ runs d (sendBlk d c b n) Q) := by
  unfold toSend sendBlk
  iintro ⟨#HR, #Hl, Hw, Hx, HO, ⟨%X, Hs⟩, Hd, Ht, Ht'⟩ Hk
  unfold runs
  rw [wp_bind]
  iapply (product_run m d (far c) b (some n) (low_owedR d _)) $$ [Hw Hx HO]
  · isplitr; · iexact Hl
    isplitl [Hw]; · iexact Hw
    isplitl [Hx] <;> iassumption
  iintro ⟨Hw, Hx, HO⟩
  iapply (load_slot d (M := sbM) (r := sbRect c b) (hr := fun _ => rfl) (hq := squeezes_S1x1024x512_S1024x512) X
    shapeCasts_S1024x512_S1x1024x512) $$ Hs
  iintro Hs
  ihave Hs' := (some_intro d (sbSl c b) X) $$ Hs
  iapply (store_slot d (M := sbM) (r := sbRect c b) (hr := fun _ => rfl) (hq := squeezes_S1x1024x512_S1024x512)
    (w := sendPay (yVal m d (far c) b)) shapeCasts_S1x1024x512_S1024x512) $$ Hs'
  iintro Hs
  ihave Hs' := (Entails.of_eq (congrArg (at' d (sbSl c b)) (sendPay_eq m d c b))) $$ Hs
  iapply (last_run d)
  iapply (send_start m K d c b (O₁ := owedR d (unsent (4 * c.val + b.val)))
    (owedR d (unsent (4 * c.val + b.val + 1))) (by rw [owedR_erase d _ _ (unsent_mem c b), unsent_erase])) $$ [Hs' Hd HO Ht Ht']
  · isplitr; · iexact HR
    isplitl [Hs']; · iexact Hs'
    isplitl [Hd]; · iexact Hd
    isplitl [HO]; · iexact HO
    isplitl [Ht] <;> iassumption
  iintro ⟨Hc, HO⟩
  iapply (ret_run d)
  iapply Hk
  isplitl [Hw]; · iexact Hw
  isplitl [Hx]; · iexact Hx
  isplitl [HO] <;> iassumption

/-- The four blocks of a part. -/
theorem sendPart_run {Q : PUnit → sProp 𝕄} (c : Fin 3) :
    iprop(recs m K ∗ levAts L lv ∗ wReady m d (some (far c, 0)) ∗ xAll m d ∗ owe d (owedR d (unsent (4 * c.val)))
        ∗ bigSep Finset.univ fun b => toSend d c b)
      ⊢ iprop((iprop(wReady m d (some (c.succ, 0)) ∗ xAll m d ∗ owe d (owedR d (unsent (4 * c.val + 4)))
              ∗ bigSep Finset.univ fun b => cred (tallyAt (sendCell d c b) () N)) -∗ Q ⟨⟩)
          -∗ runs d (sendPart d c) Q) := by
  rw [four, four]
  unfold sendPart
  iintro ⟨#HR, #Hl, Hw, Hx, HO, H0, H1, H2, H3⟩ Hk
  unfold runs
  rw [wp_bind]
  iapply (sendBlk_run m K d c 0 (far c, 1)) $$ [Hw Hx HO H0]
  · isplitr; · iexact HR
    isplitr; · iexact Hl
    isplitl [Hw]; · iexact Hw
    isplitl [Hx]; · iexact Hx
    isplitl [HO] <;> iassumption
  iintro ⟨Hw, Hx, HO, H0⟩
  rw [wp_bind]
  iapply (sendBlk_run m K d c 1 (far c, 2)) $$ [Hw Hx HO H1]
  · isplitr; · iexact HR
    isplitr; · iexact Hl
    isplitl [Hw]; · iexact Hw
    isplitl [Hx]; · iexact Hx
    isplitl [HO] <;> iassumption
  iintro ⟨Hw, Hx, HO, H1⟩
  rw [wp_bind]
  iapply (sendBlk_run m K d c 2 (far c, 3)) $$ [Hw Hx HO H2]
  · isplitr; · iexact HR
    isplitr; · iexact Hl
    isplitl [Hw]; · iexact Hw
    isplitl [Hx]; · iexact Hx
    isplitl [HO] <;> iassumption
  iintro ⟨Hw, Hx, HO, H2⟩
  iapply (sendBlk_run m K d c 3 (c.succ, 0)) $$ [Hw Hx HO H3]
  · isplitr; · iexact HR
    isplitr; · iexact Hl
    isplitl [Hw]; · iexact Hw
    isplitl [Hx]; · iexact Hx
    isplitl [HO] <;> iassumption
  iintro ⟨Hw, Hx, HO, H3⟩
  iapply Hk
  isplitl [Hw]; · iexact Hw
  isplitl [Hx]; · iexact Hx
  isplitl [HO]; · iexact HO
  isplitl [H0]; · iexact H0
  isplitl [H1]; · iexact H1
  isplitl [H2] <;> iassumption

/-! ### The blocks kept -/

theorem low_zero : Low F d 0 := by
  have h := low_owedR (F := F) d ∅
  rwa [owedR_empty] at h

/-- Output slot `h` free. -/
def oIdle (h : Fin 2) : sProp 𝕄 := iprop(some' d (obSl h) ∗ zero d (oSem h))
/-- Output slot `h` on its way to own block `b` of the result. -/
def oBusy (b : Fin 4) (h : Fin 2) : sProp 𝕄 :=
  Fly d (oSem h) (oWin d b).view.dmaCredit iprop(at' d (oWin d b) (oVal m d b) ∗ at' d (obSl h) (oVal m d b))

theorem ownPay_eq (b : Fin 4) :
    shapeCast S1024x512 (ownPay (yVal m d 3 b)) shapeCasts_S1x1024x512_S1024x512 = oVal m d b := by
  unfold ownPay oVal
  rw [shapeCast_shapeCast]

theorem ownEnd_run {Q : PUnit → sProp 𝕄} (b : Fin 4) (h : Fin 2) :
    iprop(oIdle d h ∗ some' d (oWin d b))
      ⊢ iprop((oBusy m d b h -∗ Q ⟨⟩) -∗ runs d (ownEnd d b h (yVal m d 3 b)) Q) := by
  unfold oIdle oBusy ownEnd
  iintro ⟨⟨⟨%X, Hs⟩, Hz⟩, Hd⟩ Hk
  iapply (load_slot d (M := obM) (r := obRect h) (hr := fun _ => rfl) (hq := squeezes_S1x1024x512_S1024x512) X
    shapeCasts_S1024x512_S1x1024x512) $$ Hs
  iintro Hs
  ihave Hs' := (some_intro d (obSl h) X) $$ Hs
  iapply (store_slot d (M := obM) (r := obRect h) (hr := fun _ => rfl) (hq := squeezes_S1x1024x512_S1024x512)
    (w := ownPay (yVal m d 3 b)) shapeCasts_S1x1024x512_S1024x512) $$ Hs'
  iintro Hs
  ihave Hs' := (Entails.of_eq (congrArg (at' d (obSl h)) (ownPay_eq m d b))) $$ Hs
  iapply (last_run d)
  iapply (start_owned d (src := obSl h) (dst := oWin d b) (s := oSem h) (oVal m d b)
    (View.dmaCredit_pos _ (show 0 < S1024x512.numel by decide))) $$ [Hs' Hd Hz]
  · isplitl [Hs']; · iexact Hs'
    isplitl [Hd] <;> iassumption
  iintro HF
  iapply (ret_run d)
  iapply Hk
  iexact HF

theorem waitOwn_run {Q : α → sProp 𝕄} {f : PUnit → P F α} (b : Fin 4) (h : Fin 2) :
    iprop(levAts L lv ∗ oBusy m d b h ∗ owe d 0)
      ⊢ iprop((iprop(oIdle d h ∗ at' d (oWin d b) (oVal m d b) ∗ owe d 0) -∗ runs d (f ⟨⟩) Q)
          -∗ runs d (waitOwn d b h >>= f) Q) := by
  unfold oIdle oBusy
  iintro H Hk
  iapply (wait_local d rfl (low_zero d _ (lv_oSem d h))) $$ H
  iintro ⟨⟨Hd, Hs⟩, Hz, HO⟩
  iapply Hk
  isplitl [Hs Hz]
  · isplitl [Hs]; · iapply (some_intro d (obSl h) (oVal m d b)); iexact Hs
    iexact Hz
  isplitl [Hd] <;> iassumption

/-- The four own blocks. -/
theorem ownAll_run {Q : PUnit → sProp 𝕄} :
    iprop(levAts L lv ∗ wReady m d (some (3, 0)) ∗ xAll m d ∗ owe d 0 ∗ oIdle d 0 ∗ oIdle d 1
        ∗ bigSep Finset.univ fun b => some' d (oWin d b))
      ⊢ iprop((iprop(wReady m d none ∗ xAll m d ∗ owe d 0 ∗ oIdle d 0 ∗ oIdle d 1
              ∗ bigSep Finset.univ fun b => at' d (oWin d b) (oVal m d b)) -∗ Q ⟨⟩)
          -∗ runs d (ownAll d) Q) := by
  rw [four, four]
  unfold ownAll
  iintro ⟨#Hl, Hw, Hx, HO, Ho0, Ho1, H0, H1, H2, H3⟩ Hk
  unfold runs
  rw [wp_bind]
  iapply (product_run m d 3 0 (some (3, 1)) (low_zero d)) $$ [Hw Hx HO]
  · isplitr; · iexact Hl
    isplitl [Hw]; · iexact Hw
    isplitl [Hx] <;> iassumption
  iintro ⟨Hw, Hx, HO⟩
  rw [wp_bind]
  iapply (ownEnd_run m d 0 0) $$ [Ho0 H0]
  · isplitl [Ho0] <;> iassumption
  iintro Ho0
  rw [wp_bind]
  iapply (product_run m d 3 1 (some (3, 2)) (low_zero d)) $$ [Hw Hx HO]
  · isplitr; · iexact Hl
    isplitl [Hw]; · iexact Hw
    isplitl [Hx] <;> iassumption
  iintro ⟨Hw, Hx, HO⟩
  rw [wp_bind]
  iapply (ownEnd_run m d 1 1) $$ [Ho1 H1]
  · isplitl [Ho1] <;> iassumption
  iintro Ho1
  rw [wp_bind]
  iapply (product_run m d 3 2 (some (3, 3)) (low_zero d)) $$ [Hw Hx HO]
  · isplitr; · iexact Hl
    isplitl [Hw]; · iexact Hw
    isplitl [Hx] <;> iassumption
  iintro ⟨Hw, Hx, HO⟩
  iapply (waitOwn_run m d 0 0) $$ [Ho0 HO]
  · isplitr; · iexact Hl
    isplitl [Ho0] <;> iassumption
  iintro ⟨Ho0, H0, HO⟩
  unfold runs
  rw [wp_bind]
  iapply (ownEnd_run m d 2 0) $$ [Ho0 H2]
  · isplitl [Ho0] <;> iassumption
  iintro Ho0
  rw [wp_bind]
  iapply (product_run m d 3 3 none (low_zero d)) $$ [Hw Hx HO]
  · isplitr; · iexact Hl
    isplitl [Hw]; · iexact Hw
    isplitl [Hx] <;> iassumption
  iintro ⟨Hw, Hx, HO⟩
  iapply (waitOwn_run m d 1 1) $$ [Ho1 HO]
  · isplitr; · iexact Hl
    isplitl [Ho1] <;> iassumption
  iintro ⟨Ho1, H1, HO⟩
  unfold runs
  rw [wp_bind]
  iapply (ownEnd_run m d 3 1) $$ [Ho1 H3]
  · isplitl [Ho1] <;> iassumption
  iintro Ho1
  iapply (waitOwn_run m d 2 0) $$ [Ho0 HO]
  · isplitr; · iexact Hl
    isplitl [Ho0] <;> iassumption
  iintro ⟨Ho0, H2, HO⟩
  iapply (last_run d)
  iapply (waitOwn_run m d 3 1) $$ [Ho1 HO]
  · isplitr; · iexact Hl
    isplitl [Ho1] <;> iassumption
  iintro ⟨Ho1, H3, HO⟩
  iapply (ret_run d)
  iapply Hk
  isplitl [Hw]; · iexact Hw
  isplitl [Hx]; · iexact Hx
  isplitl [HO]; · iexact HO
  isplitl [Ho0]; · iexact Ho0
  isplitl [Ho1]; · iexact Ho1
  isplitl [H0]; · iexact H0
  isplitl [H1]; · iexact H1
  isplitl [H2] <;> iassumption

/-! ### The parts received -/

/-- What receiving block `b` of part `r` takes. -/
def toRecv (r : Fin 3) (b : Fin 4) : sProp 𝕄 :=
  iprop(cred (tallyAt (recvCell d r b) () N) ∗ atPos ER (recvCell d r b) 0 (∅ : Finset (Fin 3)) 0)

theorem waitRecv_run {Q : α → sProp 𝕄} {f : PUnit → P F α} (r : Fin 3) (b : Fin 4) :
    iprop(recs m K ∗ levAts L lv ∗ toRecv d r b ∗ owe d 0)
      ⊢ iprop((iprop(at' d (rbSl r b) (sVal m (srcOf d r) r b) ∗ zero d (rSem r b) ∗ owe d 0) -∗ runs d (f ⟨⟩) Q)
          -∗ runs d (waitRecv r b >>= f) Q) := by
  unfold toRecv
  iintro ⟨#HR, #Hl, ⟨Hc, Hat⟩, HO⟩ Hk
  iapply (wait_cell m K d (some (true, r, b)) (n := N)
    (w := .waitDma2 (rSem r b) (sbSl r b) (rbSl r b)
      (((Memref.isWhole_whole cc0_scratch4).wordExact_slice rfl _ (words_sb r b)).reshape _ _)
      (((Memref.isWhole_whole cc0_scratch5).wordExact_slice rfl _ (words_sb r b)).reshape _ _)) (wpE_waitDma2_eq 𝒱₀ (d : Thread nD τ) none Set.univ)
    (Nat.one_mul _).symm (O := 0) (by rw [MayWait_zero]; exact Laws.affine)) $$ [Hc Hat HO]
  · isplitr; · iexact HR
    isplitr; · iexact Hl
    isplitl [Hc]; · iexact Hc
    isplitl [HO] <;> iassumption
  iintro ⟨HO, Hz, Hp⟩
  ihave Hp' := (show bigSep (dutyOf (some (true, r, b))) (fun r' => pay m d (some (true, r, b)) r')
    ⊢ at' d (rbSl r b) (sVal m (srcOf d r) r b) from bigSep_elim (i := (0 : Fin 3)) (Finset.mem_singleton_self _)) $$ Hp
  iapply Hk
  isplitl [Hp']; · iexact Hp'
  isplitl [Hz] <;> iassumption

/-- Block `b` of part `r` under its rectangle. -/
theorem got_tile (r : Fin 3) (b : Fin 4) :
    at' d (rbSl r b) (sVal m (srcOf d r) r b) ⊢ at' d (rbM.slice (sbRect r b) (fun _ => rfl)) (fun j => rVal m d ((sbRect r b).emb j)) :=
  (at_unsqueeze d (M := rbM) (r := sbRect r b) (hr := fun _ => rfl) (hq := squeezes_S1x1024x512_S1024x512) (sVal m (srcOf d r) r b)
    shapeCasts_S1024x512_S1x1024x512).trans (Entails.of_eq (congrArg _ (rVal_tile m d r b)))

end Cert.KernelIdeal.Run

end
-- ==== Proof.Drain.lean ====
/- The received parts, copied to the result, and the waits for the sends. -/
module

public import proofs.«01_k».proof.Proof.Blocks

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × CellIx → ℕ) (d : Dev nD) {α : Type}

/-! ### A received part, whole -/

/-- The elements of part `r` of the receive buffer. -/
def partSet (r : Fin 3) : Finset (cc0_scratch5 : Ref sig .tc).ty.Idx :=
  (Finset.univ : Finset (Fin 4)).biUnion fun b => (rbM.view.slice (sbRect r b)).set

/-- Part `r` of the receive buffer at contents that read the received blocks. -/
def Got (r : Fin 3) : sProp 𝕄 :=
  iprop(∃ g : (cc0_scratch5 : Ref sig .tc).ty.Contents (Elt F),
    ⌜∀ b ∈ (Finset.univ : Finset (Fin 4)), ∀ j, rbM.view.read (Elt F) g ((sbRect r b).emb j) = rVal m d ((sbRect r b).emb j)⌝
      ∗ ((d : Thread nD τ).loc cc0_scratch5 ↦[partSet r]{fullShare} g))

theorem sbRect_disj (r : Fin 3) (b b' : Fin 4) (h : b ≠ b') : Disjoint (sbRect r b).set (sbRect r b').set :=
  sbTiles.disj (r, b) (r, b') (fun e => h (Prod.ext_iff.mp e).2)

/-- Four received blocks are their part. -/
theorem got_intro (r : Fin 3) :
    (bigSep Finset.univ fun b : Fin 4 => at' d (rbSl r b) (sVal m (srcOf d r) r b)) ⊢ Got m d r :=
  (bigSep_mono fun b _ => got_tile m d r b).trans
    (owns_rects_join (d : Thread nD τ) rbM fullShare (fun b : Fin 4 => sbRect r b) (fun _ _ => rfl) (sbRect_disj r) (rVal m d) Finset.univ)

/-- A half of a part lies in its blocks. -/
theorem half_mem (r : Fin 3) (h : Fin 2) (j : (rhRect r h).shape.Idx) :
    ∃ b : Fin 4, ∃ i, (rhRect r h).emb j = (sbRect r b).emb i := by
  have h0 : (j 0).val < 1 := (j 0).isLt
  have h1 : (j 1).val < 1024 := (j 1).isLt
  have h2 : (j 2).val < 1024 := (j 2).isLt
  refine ⟨⟨2 * h.val + (j 2).val / 512, by omega⟩, ix3 0 (j 1) ⟨(j 2).val % 512, Nat.mod_lt _ (by decide)⟩, Shape.idx3_ext ?_ ?_ ?_⟩
  · show r.val + 1 * (j 0).val = r.val + 1 * 0; omega
  · show 0 + 1 * (j 1).val = 0 + 1 * (j 1).val; rfl
  · show 1024 * h.val + 1 * (j 2).val = 512 * (2 * h.val + (j 2).val / 512) + 1 * ((j 2).val % 512); omega

theorem half_subset (r : Fin 3) (h : Fin 2) : (rbM.access (rhRect r h)).set ⊆ partSet r := by
  intro i hi
  obtain ⟨j, rfl⟩ := View.exists_of_mem_set_slice hi
  obtain ⟨b, i, e⟩ := half_mem r h j
  rw [e]
  refine Finset.mem_biUnion.mpr ⟨b, Finset.mem_univ _, ?_⟩
  rw [View.set, Finset.mem_map]
  exact ⟨i, Finset.mem_univ _, rfl⟩

/-- The load of a half of a received part. -/
theorem loadHalf_run {Q : α → sProp 𝕄} (r : Fin 3) (h : Fin 2) {hl : rbM.view.LoadsAt (rhRect r h).toLoadRect}
    {f : Vec F S1x1024x1024 .bf16 → P F α} :
    Got m d r ⊢ iprop((Got m d r -∗ runs d (f (fun j => rVal m d ((rhRect r h).emb j))) Q)
      -∗ runs d (Prog.lift (.load rbM (rhRect r h).toLoadRect hl) >>= f) Q) := by
  show _ ⊢ iprop(_ -∗ wp frame (wpE (defs₀ (F := F)) 𝒱₀ (d : Thread nD τ) none) Set.univ (.op (.load rbM (rhRect r h).toLoadRect hl) f) Q)
  unfold Got
  iintro ⟨%g, %hg, H⟩ Hk
  have hv : (rbM.access (rhRect r h)).read (Elt F) g = fun j => rVal m d ((rhRect r h).emb j) := by
    funext j
    obtain ⟨b, i, e⟩ := half_mem r h j
    show rbM.view.read (Elt F) g ((rhRect r h).emb j) = _
    rw [e]
    exact hg b (Finset.mem_univ _) i
  iapply (wp_load_rect 𝒱₀ (d : Thread nD τ) none Set.univ (m := rbM) (r := rhRect r h) (k := f) (half_subset r h)) $$ H
  iintro H
  rw [hv]
  iapply Hk
  iexists g
  isplitr; · ipureintro; exact hg
  iexact H

/-! ### Halves on their way to the result -/

/-- Stage slot `h` on its way to half `h` of received part `r` in the result. -/
def fBusy (r : Fin 3) (h : Fin 2) : sProp 𝕄 :=
  Fly d (tSem h) (fWin d r h).view.dmaCredit iprop(at' d (fWin d r h) (fVal m d r h) ∗ at' d (stSl h) (fVal m d r h))

theorem drainPay_eq (r : Fin 3) (h : Fin 2) :
    shapeCast S1024x1024 (drainPay fun j => rVal m d ((rhRect r h).emb j)) shapeCasts_S1x1024x1024_S1024x1024 = fVal m d r h := by
  unfold drainPay fVal
  rw [shapeCast_shapeCast]
  rfl

theorem drainEnd_run {Q : PUnit → sProp 𝕄} (r : Fin 3) (h : Fin 2) :
    iprop(Got m d r ∗ tIdle d h ∗ some' d (fWin d r h))
      ⊢ iprop((iprop(Got m d r ∗ fBusy m d r h) -∗ Q ⟨⟩) -∗ runs d (drainEnd d r h) Q) := by
  unfold tIdle fBusy drainEnd
  iintro ⟨Hg, ⟨⟨%X, Hs⟩, Hz⟩, Hd⟩ Hk
  iapply (loadHalf_run m d r h) $$ Hg
  iintro Hg
  iapply (load_slot d (M := stM) (r := stRect h) (hr := fun _ => rfl) (hq := squeezes_S1x1024x1024_S1024x1024) X
    shapeCasts_S1024x1024_S1x1024x1024) $$ Hs
  iintro Hs
  ihave Hs' := (some_intro d (stSl h) X) $$ Hs
  iapply (store_slot d (M := stM) (r := stRect h) (hr := fun _ => rfl) (hq := squeezes_S1x1024x1024_S1024x1024)
    (w := drainPay fun j => rVal m d ((rhRect r h).emb j)) shapeCasts_S1x1024x1024_S1024x1024) $$ Hs'
  iintro Hs
  ihave Hs' := (Entails.of_eq (congrArg (at' d (stSl h)) (drainPay_eq m d r h))) $$ Hs
  iapply (last_run d)
  iapply (start_owned d (src := stSl h) (dst := fWin d r h) (s := tSem h) (fVal m d r h)
    (View.dmaCredit_pos _ (show 0 < S1024x1024.numel by decide))) $$ [Hs' Hd Hz]
  · isplitl [Hs']; · iexact Hs'
    isplitl [Hd] <;> iassumption
  iintro HF
  iapply (ret_run d)
  iapply Hk
  isplitl [Hg]; · iexact Hg
  iexact HF

theorem waitFar_run {Q : α → sProp 𝕄} {f : PUnit → P F α} (r : Fin 3) (h : Fin 2) :
    iprop(levAts L lv ∗ fBusy m d r h ∗ owe d 0)
      ⊢ iprop((iprop(tIdle d h ∗ at' d (fWin d r h) (fVal m d r h) ∗ owe d 0) -∗ runs d (f ⟨⟩) Q)
          -∗ runs d (waitFar d r h >>= f) Q) := by
  unfold tIdle fBusy
  iintro H Hk
  iapply (wait_local d rfl (low_zero d _ (lv_tSem d h))) $$ H
  iintro ⟨⟨Hd, Hs⟩, Hz, HO⟩
  iapply Hk
  isplitl [Hs Hz]
  · isplitl [Hs]; · iapply (some_intro d (stSl h) (fVal m d r h)); iexact Hs
    iexact Hz
  isplitl [Hd] <;> iassumption

/-- The counters of the receive cells of part `r`, closed. -/
def recvZero (r : Fin 3) : sProp 𝕄 := bigSep Finset.univ fun b : Fin 4 => zero d (rSem r b)

/-- The four arrivals of a part. -/
theorem recvAll_run {Q : PUnit → sProp 𝕄} (r : Fin 3) :
    iprop(recs m K ∗ levAts L lv ∗ (bigSep Finset.univ fun b : Fin 4 => toRecv d r b) ∗ owe d 0)
      ⊢ iprop((iprop(Got m d r ∗ recvZero d r ∗ owe d 0) -∗ Q ⟨⟩) -∗ runs d (recvAll r) Q) := by
  unfold recvAll recvZero
  rw [four, four]
  iintro ⟨#HR, #Hl, ⟨H0, H1, H2, H3⟩, HO⟩ Hk
  iapply (waitRecv_run m K d r 0) $$ [H0 HO]
  · isplitr; · iexact HR
    isplitr; · iexact Hl
    isplitl [H0] <;> iassumption
  iintro ⟨H0, Z0, HO⟩
  iapply (waitRecv_run m K d r 1) $$ [H1 HO]
  · isplitr; · iexact HR
    isplitr; · iexact Hl
    isplitl [H1] <;> iassumption
  iintro ⟨H1, Z1, HO⟩
  iapply (waitRecv_run m K d r 2) $$ [H2 HO]
  · isplitr; · iexact HR
    isplitr; · iexact Hl
    isplitl [H2] <;> iassumption
  iintro ⟨H2, Z2, HO⟩
  iapply (last_run d)
  iapply (waitRecv_run m K d r 3) $$ [H3 HO]
  · isplitr; · iexact HR
    isplitr; · iexact Hl
    isplitl [H3] <;> iassumption
  iintro ⟨H3, Z3, HO⟩
  iapply (ret_run d)
  iapply Hk
  isplitl [H0 H1 H2 H3]
  · iapply (got_intro m d r)
    rw [four]
    isplitl [H0]; · iexact H0
    isplitl [H1]; · iexact H1
    isplitl [H2] <;> iassumption
  isplitr [HO]
  · isplitl [Z0]; · iexact Z0
    isplitl [Z1]; · iexact Z1
    isplitl [Z2] <;> iassumption
  iexact HO

/-- Both halves of part `r` on their way to the result. -/
def fBoth (r : Fin 3) : sProp 𝕄 := iprop(fBusy m d r 0 ∗ fBusy m d r 1)
/-- Both halves of part `r` of the result, to be written. -/
def fOpen (r : Fin 3) : sProp 𝕄 := iprop(some' d (fWin d r 0) ∗ some' d (fWin d r 1))
/-- Both halves of part `r` of the result, written. -/
def fDone (r : Fin 3) : sProp 𝕄 := iprop(at' d (fWin d r 0) (fVal m d r 0) ∗ at' d (fWin d r 1) (fVal m d r 1))
/-- What the arrivals of part `r` take. -/
def toGet (r : Fin 3) : sProp 𝕄 := bigSep Finset.univ fun b : Fin 4 => toRecv d r b

/-- A received part after the first. -/
theorem drainNext_run {Q : PUnit → sProp 𝕄} (p r : Fin 3) :
    iprop(recs m K ∗ levAts L lv ∗ toGet d r ∗ fBoth m d p ∗ fOpen d r ∗ owe d 0)
      ⊢ iprop((iprop(Got m d r ∗ recvZero d r ∗ fDone m d p ∗ fBoth m d r ∗ owe d 0) -∗ Q ⟨⟩) -∗ runs d (drainNext d p r) Q) := by
  unfold drainNext fBoth fOpen fDone toGet
  iintro ⟨#HR, #Hl, Hr, ⟨B0, B1⟩, ⟨O0, O1⟩, HO⟩ Hk
  unfold runs
  rw [wp_bind]
  iapply (recvAll_run m K d r) $$ [Hr HO]
  · isplitr; · iexact HR
    isplitr; · iexact Hl
    isplitl [Hr] <;> iassumption
  iintro ⟨Hg, Hz, HO⟩
  iapply (waitFar_run m d p 0) $$ [B0 HO]
  · isplitr; · iexact Hl
    isplitl [B0] <;> iassumption
  iintro ⟨T0, D0, HO⟩
  unfold runs
  rw [wp_bind]
  iapply (drainEnd_run m d r 0) $$ [Hg T0 O0]
  · isplitl [Hg]; · iexact Hg
    isplitl [T0] <;> iassumption
  iintro ⟨Hg, B0⟩
  iapply (waitFar_run m d p 1) $$ [B1 HO]
  · isplitr; · iexact Hl
    isplitl [B1] <;> iassumption
  iintro ⟨T1, D1, HO⟩
  iapply (drainEnd_run m d r 1) $$ [Hg T1 O1]
  · isplitl [Hg]; · iexact Hg
    isplitl [T1] <;> iassumption
  iintro ⟨Hg, B1⟩
  iapply Hk
  isplitl [Hg]; · iexact Hg
  isplitl [Hz]; · iexact Hz
  isplitl [D0 D1]; · isplitl [D0] <;> iassumption
  isplitl [B0 B1]; · isplitl [B0] <;> iassumption
  iexact HO

/-- The three received parts. -/
theorem drainAll_run {Q : PUnit → sProp 𝕄} :
    iprop(recs m K ∗ levAts L lv ∗ (toGet d 0 ∗ toGet d 1 ∗ toGet d 2) ∗ (fOpen d 0 ∗ fOpen d 1 ∗ fOpen d 2)
        ∗ (tIdle d 0 ∗ tIdle d 1) ∗ owe d 0)
      ⊢ iprop((iprop((Got m d 0 ∗ Got m d 1 ∗ Got m d 2) ∗ (recvZero d 0 ∗ recvZero d 1 ∗ recvZero d 2)
              ∗ (fDone m d 0 ∗ fDone m d 1 ∗ fDone m d 2) ∗ (tIdle d 0 ∗ tIdle d 1) ∗ owe d 0) -∗ Q ⟨⟩)
          -∗ runs d (drainAll d) Q) := by
  unfold drainAll
  iintro ⟨#HR, #Hl, ⟨R0, R1, R2⟩, ⟨O0, O1, O2⟩, ⟨T0, T1⟩, HO⟩ Hk
  unfold runs
  rw [wp_bind]
  unfold toGet
  iapply (recvAll_run m K d 0) $$ [R0 HO]
  · isplitr; · iexact HR
    isplitr; · iexact Hl
    isplitl [R0] <;> iassumption
  iintro ⟨G0, Z0, HO⟩
  unfold fOpen
  icases O0 with ⟨O00, O01⟩
  rw [wp_bind]
  iapply (drainEnd_run m d 0 0) $$ [G0 T0 O00]
  · isplitl [G0]; · iexact G0
    isplitl [T0] <;> iassumption
  iintro ⟨G0, B0⟩
  rw [wp_bind]
  iapply (drainEnd_run m d 0 1) $$ [G0 T1 O01]
  · isplitl [G0]; · iexact G0
    isplitl [T1] <;> iassumption
  iintro ⟨G0, B1⟩
  rw [wp_bind]
  iapply (drainNext_run m K d 0 1) $$ [R1 B0 B1 O1 HO]
  · isplitr; · iexact HR
    isplitr; · iexact Hl
    isplitl [R1]; · unfold toGet; iexact R1
    isplitl [B0 B1]; · unfold fBoth; isplitl [B0] <;> iassumption
    isplitl [O1]; · unfold fOpen; iexact O1
    iexact HO
  iintro ⟨G1, Z1, D0, B, HO⟩
  rw [wp_bind]
  iapply (drainNext_run m K d 1 2) $$ [R2 B O2 HO]
  · isplitr; · iexact HR
    isplitr; · iexact Hl
    isplitl [R2]; · unfold toGet; iexact R2
    isplitl [B]; · iexact B
    isplitl [O2]; · unfold fOpen; iexact O2
    iexact HO
  iintro ⟨G2, Z2, D1, B, HO⟩
  unfold fBoth
  icases B with ⟨B0, B1⟩
  iapply (waitFar_run m d 2 0) $$ [B0 HO]
  · isplitr; · iexact Hl
    isplitl [B0] <;> iassumption
  iintro ⟨T0, D20, HO⟩
  iapply (last_run d)
  iapply (waitFar_run m d 2 1) $$ [B1 HO]
  · isplitr; · iexact Hl
    isplitl [B1] <;> iassumption
  iintro ⟨T1, D21, HO⟩
  iapply (ret_run d)
  iapply Hk
  isplitl [G0 G1 G2]
  · isplitl [G0]; · iexact G0
    isplitl [G1] <;> iassumption
  isplitl [Z0 Z1 Z2]
  · isplitl [Z0]; · iexact Z0
    isplitl [Z1] <;> iassumption
  isplitl [D0 D1 D20 D21]
  · isplitl [D0]; · iexact D0
    isplitl [D1]; · iexact D1
    unfold fDone
    isplitl [D20] <;> iassumption
  isplitl [T0 T1]; · isplitl [T0] <;> iassumption
  iexact HO

/-! ### The sends done -/

/-- What waiting for the sends of part `r` takes. -/
def toEnd (r : Fin 3) (b : Fin 4) : sProp 𝕄 :=
  iprop(cred (tallyAt (sendCell d r b) () N) ∗ atPos ER (sendCell d r b) 0 (∅ : Finset (Fin 3)) 0)
/-- What it gives back. -/
def sent (r : Fin 3) (b : Fin 4) : sProp 𝕄 := iprop(some' d (sbSl r b) ∗ zero d (sSem r b))

theorem waitSend_run {Q : α → sProp 𝕄} {f : PUnit → P F α} (r : Fin 3) (b : Fin 4) :
    iprop(recs m K ∗ levAts L lv ∗ toEnd d r b ∗ owe d 0)
      ⊢ iprop((iprop(sent d r b ∗ owe d 0) -∗ runs d (f ⟨⟩) Q) -∗ runs d (waitSend r b >>= f) Q) := by
  unfold toEnd sent
  iintro ⟨#HR, #Hl, ⟨Hc, Hat⟩, HO⟩ Hk
  iapply (wait_cell m K d (some (false, r, b)) (n := N)
    (w := .waitDma2 (sSem r b) (rbSl r b) (sbSl r b)
      (((Memref.isWhole_whole cc0_scratch5).wordExact_slice rfl _ (words_sb r b)).reshape _ _)
      (((Memref.isWhole_whole cc0_scratch4).wordExact_slice rfl _ (words_sb r b)).reshape _ _))
    (wpE_waitDma2_eq 𝒱₀ (d : Thread nD τ) none Set.univ)
    (Nat.one_mul _).symm (O := 0) (by rw [MayWait_zero]; exact Laws.affine)) $$ [Hc Hat HO]
  · isplitr; · iexact HR
    isplitr; · iexact Hl
    isplitl [Hc]; · iexact Hc
    isplitl [HO] <;> iassumption
  iintro ⟨HO, Hz, Hp⟩
  ihave Hp' := (show bigSep (dutyOf (some (false, r, b))) (fun r' => pay m d (some (false, r, b)) r')
    ⊢ some' d (sbSl r b) from bigSep_elim (i := (0 : Fin 3)) (Finset.mem_singleton_self _)) $$ Hp
  iapply Hk
  isplitl [Hp' Hz]; · isplitl [Hp'] <;> iassumption
  iexact HO

theorem sentAll_run {Q : PUnit → sProp 𝕄} (r : Fin 3) :
    iprop(recs m K ∗ levAts L lv ∗ (bigSep Finset.univ fun b : Fin 4 => toEnd d r b) ∗ owe d 0)
      ⊢ iprop((iprop((bigSep Finset.univ fun b : Fin 4 => sent d r b) ∗ owe d 0) -∗ Q ⟨⟩) -∗ runs d (sentAll r) Q) := by
  unfold sentAll
  rw [four, four]
  iintro ⟨#HR, #Hl, ⟨H0, H1, H2, H3⟩, HO⟩ Hk
  iapply (waitSend_run m K d r 0) $$ [H0 HO]
  · isplitr; · iexact HR
    isplitr; · iexact Hl
    isplitl [H0] <;> iassumption
  iintro ⟨H0, HO⟩
  iapply (waitSend_run m K d r 1) $$ [H1 HO]
  · isplitr; · iexact HR
    isplitr; · iexact Hl
    isplitl [H1] <;> iassumption
  iintro ⟨H1, HO⟩
  iapply (waitSend_run m K d r 2) $$ [H2 HO]
  · isplitr; · iexact HR
    isplitr; · iexact Hl
    isplitl [H2] <;> iassumption
  iintro ⟨H2, HO⟩
  iapply (last_run d)
  iapply (waitSend_run m K d r 3) $$ [H3 HO]
  · isplitr; · iexact HR
    isplitr; · iexact Hl
    isplitl [H3] <;> iassumption
  iintro ⟨H3, HO⟩
  iapply (ret_run d)
  iapply Hk
  isplitr [HO]
  · isplitl [H0]; · iexact H0
    isplitl [H1]; · iexact H1
    isplitl [H2] <;> iassumption
  iexact HO

end Cert.KernelIdeal.Run

end
-- ==== Proof.Body.lean ====
/- The buffers dealt to the program's parts and collected again, and the run of the body at a device. -/
module

public import proofs.«01_k».proof.Proof.Drain

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × CellIx → ℕ) (d : Dev nD) {α : Type}

/-! ### A received part, whole -/

theorem two (Φ : Fin 2 → sProp 𝕄) : bigSep Finset.univ Φ = iprop(Φ 0 ∗ Φ 1) :=
  bigSep_univ_eq_bigSepL [0, 1] (by decide) (by decide) Φ
theorem three (Φ : Fin 3 → sProp 𝕄) : bigSep Finset.univ Φ = iprop(Φ 0 ∗ Φ 1 ∗ Φ 2) :=
  bigSep_univ_eq_bigSepL [0, 1, 2] (by decide) (by decide) Φ

/-! ### Buffers and their slots -/

section Slots

variable (b : Ref sig .tc) {T : Type} [Fintype T] [DecidableEq T] (R : Tiling b.ty.shape T) {s' : Shape}
  (hq : ∀ t, (R.r t).shape.Squeezes s')

/-- A buffer owned at some contents. -/
abbrev whole' : sProp 𝕄 := iprop(∃ f : b.ty.Contents (Elt F), (d : Thread nD τ).loc b ↦{fullShare} f)

/-- A buffer owned is each of its slots owned, -/
theorem split_slots : whole' d b
    ⊢ (bigSep Finset.univ fun t => some' d (((Memref.whole b).slice (R.r t) (R.one t)).squeeze s' (hq t)) : sProp 𝕄) :=
  (split_tiles d b R).trans (bigSep_mono fun _ _ => some_squeeze d)
/-- and conversely. -/
theorem join_slots : (bigSep Finset.univ fun t => some' d (((Memref.whole b).slice (R.r t) (R.one t)).squeeze s' (hq t)) : sProp 𝕄)
    ⊢ whole' d b :=
  (bigSep_mono fun _ _ => some_unsqueeze d).trans (join_tiles d b R)

end Slots

theorem st_split : (whole' d cc0_scratch0 : sProp 𝕄) ⊢ bigSep Finset.univ fun h : Fin 2 => some' d (stSl h) :=
  split_slots d cc0_scratch0 stTiles (fun _ => squeezes_S1x1024x1024_S1024x1024)
theorem st_join : (bigSep Finset.univ fun h : Fin 2 => some' d (stSl h) : sProp 𝕄) ⊢ whole' d cc0_scratch0 :=
  join_slots d cc0_scratch0 stTiles (fun _ => squeezes_S1x1024x1024_S1024x1024)
theorem ob_split : (whole' d cc0_scratch1 : sProp 𝕄) ⊢ bigSep Finset.univ fun h : Fin 2 => some' d (obSl h) :=
  split_slots d cc0_scratch1 obTiles (fun _ => squeezes_S1x1024x512_S1024x512)
theorem ob_join : (bigSep Finset.univ fun h : Fin 2 => some' d (obSl h) : sProp 𝕄) ⊢ whole' d cc0_scratch1 :=
  join_slots d cc0_scratch1 obTiles (fun _ => squeezes_S1x1024x512_S1024x512)
theorem xb_split : (whole' d cc0_scratch2 : sProp 𝕄) ⊢ bigSep Finset.univ fun q : Fin 4 => some' d (xbSl q) :=
  split_tiles d cc0_scratch2 xTiles
theorem xb_join : (bigSep Finset.univ fun q : Fin 4 => some' d (xbSl q) : sProp 𝕄) ⊢ whole' d cc0_scratch2 :=
  join_tiles d cc0_scratch2 xTiles
theorem wb_split : (whole' d cc0_scratch3 : sProp 𝕄) ⊢ bigSep Finset.univ fun k : Fin 4 => some' d (wbSl k) :=
  split_slots d cc0_scratch3 wbTiles (fun _ => squeezes_S1x1024x512_S1024x512)
theorem wb_join : (bigSep Finset.univ fun k : Fin 4 => some' d (wbSl k) : sProp 𝕄) ⊢ whole' d cc0_scratch3 :=
  join_slots d cc0_scratch3 wbTiles (fun _ => squeezes_S1x1024x512_S1024x512)
theorem sb_split : (whole' d cc0_scratch4 : sProp 𝕄)
    ⊢ bigSep Finset.univ fun r : Fin 3 => bigSep Finset.univ fun b : Fin 4 => some' d (sbSl r b) :=
  (split_slots d cc0_scratch4 sbTiles (fun _ => squeezes_S1x1024x512_S1024x512)).trans (Entails.of_eq (bigSep_univ_prod _))
theorem sb_join : (bigSep Finset.univ fun r : Fin 3 => bigSep Finset.univ fun b : Fin 4 => some' d (sbSl r b) : sProp 𝕄)
    ⊢ whole' d cc0_scratch4 :=
  (Entails.of_eq (bigSep_univ_prod (fun p : Fin 3 × Fin 4 => (some' d (sbSl p.1 p.2) : sProp 𝕄))).symm).trans
    (join_slots d cc0_scratch4 sbTiles (fun _ => squeezes_S1x1024x512_S1024x512))
theorem rb_split : (whole' d cc0_scratch5 : sProp 𝕄)
    ⊢ bigSep Finset.univ fun r : Fin 3 => bigSep Finset.univ fun b : Fin 4 => some' d (rbSl r b) :=
  (split_slots d cc0_scratch5 sbTiles (fun _ => squeezes_S1x1024x512_S1024x512)).trans (Entails.of_eq (bigSep_univ_prod _))

/-- The three received parts are the receive buffer. -/
theorem rb_join : (bigSep Finset.univ fun r : Fin 3 => Got m d r) ⊢ whole' d cc0_scratch5 := by
  have hs : ((Finset.univ : Finset (Fin 3)).biUnion partSet) = (Finset.univ : Finset (cc0_scratch5 : Ref sig .tc).ty.Idx) := by
    ext i
    refine ⟨fun _ => Finset.mem_univ _, fun hi => ?_⟩
    obtain ⟨t, -, ht⟩ := Finset.mem_biUnion.mp (sbTiles.cover.symm ▸ hi)
    refine Finset.mem_biUnion.mpr ⟨t.1, Finset.mem_univ _, Finset.mem_biUnion.mpr ⟨t.2, Finset.mem_univ _, ?_⟩⟩
    exact (View.set_slice_whole cc0_scratch5 (sbRect t.1 t.2)).symm ▸ ht
  have hd : ∀ r ∈ (Finset.univ : Finset (Fin 3)), ∀ r' ∈ (Finset.univ : Finset (Fin 3)), r ≠ r' → Disjoint (partSet r) (partSet r') := by
    intro r _ r' _ h
    refine (Finset.disjoint_biUnion_left _ _ _).mpr fun b _ => (Finset.disjoint_biUnion_right _ _ _).mpr fun b' _ => ?_
    exact View.disjoint_slice (v := rbM.view) (sbTiles.disj (r, b) (r', b') (fun e => h (Prod.ext_iff.mp e).1))
  have hb (r : Fin 3) : Got m d r
      ⊢ iprop(∃ g : (cc0_scratch5 : Ref sig .tc).ty.Contents (Elt F), (d : Thread nD τ).loc cc0_scratch5 ↦[partSet r]{fullShare} g) := by
    unfold Got
    iintro ⟨%g, -, H⟩
    iexists g; iexact H
  refine (bigSep_mono fun r _ => hb r).trans ?_
  refine (BI.bigSep_exists_pi (Finset.univ : Finset (Fin 3)) _).trans ?_
  iintro ⟨%fs, H⟩
  ihave H' := (pointsTo_biUnion_join (ℓ := (d : Thread nD τ).loc cc0_scratch5) (q := fullShare) (Finset.univ : Finset (Fin 3))
    partSet fs (fun _ => Classical.arbitrary _) hd) $$ H
  icases H' with ⟨%g, -, H⟩
  iexists g
  rw [hs]
  iexact H

/-! ### What the body starts from and ends in -/

/-- The local transfers' counters at zero. -/
def idle : sProp 𝕄 :=
  iprop((bigSep Finset.univ fun k : Fin 4 => zero d (wSem k)) ∗ (bigSep Finset.univ fun k : Fin 2 => zero d (oSem k))
    ∗ bigSep Finset.univ fun k : Fin 2 => zero d (tSem k))

/-- The six buffers that the body works in. -/
def scratch : sProp 𝕄 :=
  iprop(whole' d cc0_scratch0 ∗ whole' d cc0_scratch1 ∗ whole' d cc0_scratch2 ∗ whole' d cc0_scratch3 ∗ whole' d cc0_scratch4
    ∗ whole' d cc0_scratch5)

/-- The two inputs. -/
def inputs : sProp 𝕄 :=
  iprop(((d : Thread nD τ).loc main_arg0 ↦{fullShare} mx m d) ∗ ((d : Thread nD τ).loc main_arg1 ↦{fullShare} mw m d))

/-- What is left of the inputs' shares. -/
def spare : sProp 𝕄 :=
  iprop(((d : Thread nD τ).loc main_arg0 ↦{Transfers.shareDrop fullShare 2} mx m d)
    ∗ ((d : Thread nD τ).loc main_arg1 ↦{Transfers.shareDrop fullShare 4} mw m d))

/-- A stage slot with its share of `x`. -/
def xIdle (h : Fin 2) : sProp 𝕄 := iprop(xShare m d h ∗ tIdle d h)

theorem inputs_split : inputs m d ⊢ iprop(spare m d ∗ (bigSep Finset.univ fun h => xShare m d h) ∗ bigSep Finset.univ fun k => wShare m d k) := by
  unfold inputs spare
  iintro ⟨Hx, Hw⟩
  ihave Hx' := (Transfers.pointsTo_toks fullShare 2).1 $$ Hx
  ihave Hw' := (Transfers.pointsTo_toks fullShare 4).1 $$ Hw
  icases Hx' with ⟨Hx, Hxs⟩
  icases Hw' with ⟨Hw, Hws⟩
  isplitl [Hx Hw]; · isplitl [Hx] <;> iassumption
  isplitl [Hxs] <;> iassumption
theorem inputs_join : iprop(spare m d ∗ (bigSep Finset.univ fun h => xShare m d h) ∗ bigSep Finset.univ fun k => wShare m d k) ⊢ inputs m d := by
  unfold inputs spare
  iintro ⟨⟨Hx, Hw⟩, Hxs, Hws⟩
  isplitl [Hx Hxs]
  · iapply (Transfers.pointsTo_toks fullShare 2).2
    isplitl [Hx] <;> iassumption
  · iapply (Transfers.pointsTo_toks fullShare 4).2
    isplitl [Hw] <;> iassumption

/-- The result's blocks, to be written. -/
theorem out_split : (whole' d main_v1 : sProp 𝕄)
    ⊢ iprop((bigSep Finset.univ fun b : Fin 4 => some' d (oWin d b)) ∗ bigSep Finset.univ fun r : Fin 3 => fOpen d r) := by
  refine (split_tiles d main_v1 (oTiles d)).trans ?_
  rw [bigSep_univ_sum]
  refine BI.sep_mono (bigSep_mono fun b _ => some_squeeze d) ?_
  rw [bigSep_univ_prod]
  refine bigSep_mono fun r _ => ?_
  unfold fOpen
  rw [two]
  exact BI.sep_mono (some_squeeze d) (some_squeeze d)

/-- The result's blocks, written. -/
theorem out_join : iprop((bigSep Finset.univ fun b : Fin 4 => at' d (oWin d b) (oVal m d b)) ∗ bigSep Finset.univ fun r : Fin 3 => fDone m d r)
    ⊢ ((d : Thread nD τ).loc main_v1 ↦{fullShare} outVal m d) := by
  refine BI.Entails.trans ?_ (join_tiles_at d main_v1 (oTiles d) (outVal m d))
  rw [bigSep_univ_sum]
  refine BI.sep_mono (bigSep_mono fun b _ => ?_) ?_
  · exact (at_unsqueeze d (M := oM) (r := oRect d b) (hr := fun _ => rfl) (hq := squeezes_S1x1024x512_S1024x512) (oVal m d b)
      shapeCasts_S1024x512_S1x1024x512).trans (Entails.of_eq (congrArg _ (outVal_own m d b)))
  · have hf (r : Fin 3) (h : Fin 2) : at' d (fWin d r h) (fVal m d r h)
        ⊢ at' d (oM.slice (fRect d r h) (fun _ => rfl)) (fun j => outVal m d ((fRect d r h).emb j)) :=
      (at_unsqueeze d (M := oM) (r := fRect d r h) (hr := fun _ => rfl) (hq := squeezes_S1x1024x1024_S1024x1024) (fVal m d r h)
        shapeCasts_S1024x1024_S1x1024x1024).trans (Entails.of_eq (congrArg _ (outVal_far m d r h)))
    rw [bigSep_univ_prod]
    refine bigSep_mono fun r _ => ?_
    unfold fDone
    rw [two]
    exact BI.sep_mono (hf r 0) (hf r 1)

end Cert.KernelIdeal.Run

end
-- ==== Proof.Whole.lean ====
/- The run of the body at a device, from its buffers and its part of the protocol to the computed result. -/
module

public import proofs.«01_k».proof.Proof.Body

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × CellIx → ℕ) (d : Dev nD) {α : Type}

/-! ### A received part, whole -/

/-! ### The buffers dealt to the program's parts -/

/-- Every part of the program before its first step. -/
def ready : sProp 𝕄 :=
  iprop(spare m d ∗ (xIdle m d 0 ∗ xIdle m d 1) ∗ (wIdle m d 0 ∗ wIdle m d 1 ∗ wIdle m d 2 ∗ wIdle m d 3) ∗ (oIdle d 0 ∗ oIdle d 1)
    ∗ (bigSep Finset.univ fun q : Fin 4 => some' d (xbSl q))
    ∗ (bigSep Finset.univ fun r : Fin 3 => bigSep Finset.univ fun b : Fin 4 => some' d (sbSl r b))
    ∗ (bigSep Finset.univ fun r : Fin 3 => bigSep Finset.univ fun b : Fin 4 => some' d (rbSl r b))
    ∗ (bigSep Finset.univ fun b : Fin 4 => some' d (oWin d b)) ∗ (fOpen d 0 ∗ fOpen d 1 ∗ fOpen d 2))

theorem ready_intro : iprop(inputs m d ∗ whole' d main_v1 ∗ scratch d ∗ idle d) ⊢ ready m d := by
  unfold scratch idle ready xIdle wIdle oIdle tIdle
  iintro ⟨Hi, Hv, ⟨Hst, Hob, Hxb, Hwb, Hsb, Hrb⟩, Hwz, Hoz, Htz⟩
  ihave Hi := (inputs_split m d) $$ Hi
  icases Hi with ⟨Hsp, Hx, Hw⟩
  ihave Hx := (Entails.of_eq (two _)) $$ Hx
  icases Hx with ⟨X0, X1⟩
  ihave Hw := (Entails.of_eq (four _)) $$ Hw
  icases Hw with ⟨W0, W1, W2, W3⟩
  ihave Hv := (out_split d) $$ Hv
  icases Hv with ⟨Ho, Hf⟩
  ihave Hf := (Entails.of_eq (three _)) $$ Hf
  ihave Hst := ((st_split d).trans (Entails.of_eq (two _))) $$ Hst
  icases Hst with ⟨S0, S1⟩
  ihave Hob := ((ob_split d).trans (Entails.of_eq (two _))) $$ Hob
  icases Hob with ⟨B0, B1⟩
  ihave Hwb := ((wb_split d).trans (Entails.of_eq (four _))) $$ Hwb
  icases Hwb with ⟨V0, V1, V2, V3⟩
  ihave Hwz := (Entails.of_eq (four _)) $$ Hwz
  icases Hwz with ⟨Z0, Z1, Z2, Z3⟩
  ihave Hoz := (Entails.of_eq (two _)) $$ Hoz
  icases Hoz with ⟨Y0, Y1⟩
  ihave Htz := (Entails.of_eq (two _)) $$ Htz
  icases Htz with ⟨T0, T1⟩
  isplitl [Hsp]; · iexact Hsp
  isplitl [X0 X1 S0 S1 T0 T1]
  · isplitl [X0 S0 T0]
    · isplitl [X0]; · iexact X0
      isplitl [S0] <;> iassumption
    · isplitl [X1]; · iexact X1
      isplitl [S1] <;> iassumption
  isplitl [W0 W1 W2 W3 V0 V1 V2 V3 Z0 Z1 Z2 Z3]
  · isplitl [W0 V0 Z0]
    · isplitl [W0]; · iexact W0
      isplitl [V0] <;> iassumption
    isplitl [W1 V1 Z1]
    · isplitl [W1]; · iexact W1
      isplitl [V1] <;> iassumption
    isplitl [W2 V2 Z2]
    · isplitl [W2]; · iexact W2
      isplitl [V2] <;> iassumption
    · isplitl [W3]; · iexact W3
      isplitl [V3] <;> iassumption
  isplitl [B0 B1 Y0 Y1]
  · isplitl [B0 Y0]; · isplitl [B0] <;> iassumption
    isplitl [B1] <;> iassumption
  isplitl [Hxb]; · iapply (xb_split d); iexact Hxb
  isplitl [Hsb]; · iapply (sb_split d); iexact Hsb
  isplitl [Hrb]; · iapply (rb_split d); iexact Hrb
  isplitl [Ho] <;> iassumption

/-- Every part of the program after its last step. -/
def done : sProp 𝕄 :=
  iprop(spare m d ∗ (xIdle m d 0 ∗ xIdle m d 1) ∗ (wIdle m d 0 ∗ wIdle m d 1 ∗ wIdle m d 2 ∗ wIdle m d 3) ∗ (oIdle d 0 ∗ oIdle d 1)
    ∗ xAll m d ∗ (bigSep Finset.univ fun r : Fin 3 => bigSep Finset.univ fun b : Fin 4 => sent d r b)
    ∗ (Got m d 0 ∗ Got m d 1 ∗ Got m d 2)
    ∗ (bigSep Finset.univ fun b : Fin 4 => at' d (oWin d b) (oVal m d b)) ∗ (fDone m d 0 ∗ fDone m d 1 ∗ fDone m d 2))

/-- The counters of the send cells, closed. -/
def sendZero : sProp 𝕄 := bigSep Finset.univ fun r : Fin 3 => bigSep Finset.univ fun b : Fin 4 => zero d (sSem r b)

theorem sent_split : (bigSep Finset.univ fun r : Fin 3 => bigSep Finset.univ fun b : Fin 4 => sent d r b : sProp 𝕄)
    ⊢ iprop((bigSep Finset.univ fun r : Fin 3 => bigSep Finset.univ fun b : Fin 4 => some' d (sbSl r b)) ∗ sendZero d) := by
  unfold sent sendZero
  rw [← bigSep_sep']
  exact bigSep_mono fun r _ => Entails.of_eq (bigSep_sep' _ _ _)

theorem done_elim : done m d
    ⊢ iprop(inputs m d ∗ ((d : Thread nD τ).loc main_v1 ↦{fullShare} outVal m d) ∗ scratch d ∗ idle d ∗ sendZero d) := by
  unfold scratch idle done xIdle wIdle oIdle tIdle xAll
  iintro ⟨Hsp, ⟨⟨X0, S0, T0⟩, X1, S1, T1⟩, ⟨⟨W0, V0, Z0⟩, ⟨W1, V1, Z1⟩, ⟨W2, V2, Z2⟩, W3, V3, Z3⟩, ⟨⟨B0, Y0⟩, B1, Y1⟩,
    ⟨A0, A1, A2, A3⟩, Hs, Hg, Ho, Hf⟩
  ihave Hs := (sent_split d) $$ Hs
  icases Hs with ⟨Hsb, Hsz⟩
  isplitl [Hsp X0 X1 W0 W1 W2 W3]
  · iapply (inputs_join m d)
    isplitl [Hsp]; · iexact Hsp
    isplitl [X0 X1]
    · iapply (Entails.of_eq (two _).symm)
      isplitl [X0] <;> iassumption
    · iapply (Entails.of_eq (four _).symm)
      isplitl [W0]; · iexact W0
      isplitl [W1]; · iexact W1
      isplitl [W2] <;> iassumption
  isplitl [Ho Hf]
  · iapply (out_join m d)
    isplitl [Ho]; · iexact Ho
    iapply (Entails.of_eq (three _).symm); iexact Hf
  isplitl [S0 S1 B0 B1 A0 A1 A2 A3 V0 V1 V2 V3 Hsb Hg]
  · isplitl [S0 S1]
    · iapply ((Entails.of_eq (two _).symm).trans (st_join d))
      isplitl [S0] <;> iassumption
    isplitl [B0 B1]
    · iapply ((Entails.of_eq (two _).symm).trans (ob_join d))
      isplitl [B0] <;> iassumption
    isplitl [A0 A1 A2 A3]
    · iapply ((Entails.of_eq (four _).symm).trans (xb_join d))
      isplitl [A0]; · iapply (some_intro d (xbSl 0) (xVal m d 0)); iexact A0
      isplitl [A1]; · iapply (some_intro d (xbSl 1) (xVal m d 1)); iexact A1
      isplitl [A2]; · iapply (some_intro d (xbSl 2) (xVal m d 2)); iexact A2
      iapply (some_intro d (xbSl 3) (xVal m d 3)); iexact A3
    isplitl [V0 V1 V2 V3]
    · iapply ((Entails.of_eq (four _).symm).trans (wb_join d))
      isplitl [V0]; · iexact V0
      isplitl [V1]; · iexact V1
      isplitl [V2] <;> iassumption
    isplitl [Hsb]; · iapply (sb_join d); iexact Hsb
    iapply ((Entails.of_eq (three _).symm).trans (rb_join m d)); iexact Hg
  isplitr [Hsz]
  · isplitl [Z0 Z1 Z2 Z3]
    · iapply (Entails.of_eq (four _).symm)
      isplitl [Z0]; · iexact Z0
      isplitl [Z1]; · iexact Z1
      isplitl [Z2] <;> iassumption
    isplitl [Y0 Y1]
    · iapply (Entails.of_eq (two _).symm)
      isplitl [Y0] <;> iassumption
    · iapply (Entails.of_eq (two _).symm)
      isplitl [T0] <;> iassumption
  iexact Hsz

/-! ### The first steps -/

/-- The first transfers. -/
theorem start_run {Q : PUnit → sProp 𝕄} :
    iprop((wIdle m d 0 ∗ wIdle m d 1) ∗ xIdle m d 0 ∗ xIdle m d 1)
      ⊢ iprop((iprop((wBusy m d 0 0 0 ∗ wBusy m d 0 0 1) ∗ xBusy m d 0 0 ∗ xBusy m d 1 1) -∗ Q ⟨⟩) -∗ runs d (start d) Q) := by
  unfold start xIdle
  iintro ⟨⟨W0, W1⟩, X0, X1⟩ Hk
  iapply (startW_run m d 0 0 0) $$ W0; iintro W0
  iapply (startW_run m d 0 0 1) $$ W1; iintro W1
  iapply (startX_run m d 0 0) $$ X0; iintro X0
  iapply (last_run d)
  iapply (startX_run m d 1 1) $$ X1; iintro X1
  iapply (ret_run d)
  iapply Hk
  isplitl [W0 W1]; · isplitl [W0] <;> iassumption
  isplitl [X0] <;> iassumption

/-- What the barrier takes of the protocol: the duties of its three signals, and its own cell. -/
def toMeet : sProp 𝕄 :=
  iprop((bigSep Finset.univ fun j : Fin 3 => dutyTok ER (barCell (signalTo d j)) 0 j.rev)
    ∗ cred (tallyAt (barCell d) () 3) ∗ atPos ER (barCell d) 0 (∅ : Finset (Fin 3)) 0)

/-- The barrier: the device's receive slots are handed out, and those that it sends to are handed to it. -/
theorem barrier_run {Q : PUnit → sProp 𝕄} :
    iprop(recs m K ∗ levAts L lv ∗ owe d (O₀ d) ∗ toMeet d
        ∗ bigSep Finset.univ fun r : Fin 3 => bigSep Finset.univ fun b : Fin 4 => some' d (rbSl r b))
      ⊢ iprop((iprop(owe d (owedR d (unsent 0)) ∗ semVal (barCell d) 0
              ∗ bigSep Finset.univ fun r : Fin 3 => bigSep Finset.univ fun b : Fin 4 => some' (sendTo d r) (rbSl r b)) -∗ Q ⟨⟩)
          -∗ runs d (barrier d) Q) := by
  unfold toMeet barrier
  iintro ⟨#HR, #Hl, HO, ⟨Ht, Hc, Hat⟩, Hr⟩ Hk
  ihave Ht := (Entails.of_eq (three _)) $$ Ht
  icases Ht with ⟨T0, T1, T2⟩
  ihave Hr := (Entails.of_eq (three _)) $$ Hr
  icases Hr with ⟨R0, R1, R2⟩
  iapply (signal_bar m K d 0 (owedB d 2) rfl) $$ [HO T0 R2]
  · isplitr; · iexact HR
    isplitl [HO]; · iexact HO
    isplitl [T0]; · iexact T0
    iexact R2
  iintro HO
  iapply (signal_bar m K d 1 (owedB d 1) rfl) $$ [HO T1 R1]
  · isplitr; · iexact HR
    isplitl [HO]; · iexact HO
    isplitl [T1]; · iexact T1
    iexact R1
  iintro HO
  iapply (signal_bar m K d 2 (owedB d 0) rfl) $$ [HO T2 R0]
  · isplitr; · iexact HR
    isplitl [HO]; · iexact HO
    isplitl [T2]; · iexact T2
    iexact R0
  iintro HO
  iapply (last_run d (w := .semWait bar 3))
  iapply (wait_cell m K d none (w := .semWait bar 3) (n := 3) (wpE_semWait_eq 𝒱₀ (d : Thread nD τ) none Set.univ) rfl
    (O := owedR d Finset.univ) (mayWait_bar d Finset.univ)) $$ [Hc HO Hat]
  · isplitr; · iexact HR
    isplitr; · iexact Hl
    isplitl [Hc]; · iexact Hc
    isplitl [HO]; · iexact HO
    iexact Hat
  iintro ⟨HO, Hz, Hp⟩
  iapply (ret_run d)
  iapply Hk
  isplitl [HO]; · rw [unsent_zero]; iexact HO
  isplitl [Hz]; · iexact Hz
  iexact Hp

/-- The device's rows, rounded. -/
theorem convAll_run {Q : PUnit → sProp 𝕄} {O : CellTallies nD τ sig Unit} (hO : Low F d O) :
    iprop(levAts L lv ∗ (xBusy m d 0 0 ∗ xBusy m d 1 1) ∗ (bigSep Finset.univ fun q : Fin 4 => some' d (xbSl q)) ∗ owe d O)
      ⊢ iprop((iprop((xIdle m d 0 ∗ xIdle m d 1) ∗ xAll m d ∗ owe d O) -∗ Q ⟨⟩) -∗ runs d convAll Q) := by
  unfold convAll xIdle xAll
  iintro ⟨#Hl, ⟨B0, B1⟩, Hs, HO⟩ Hk
  ihave Hs := (Entails.of_eq (four _)) $$ Hs
  icases Hs with ⟨S0, S1, S2, S3⟩
  unfold runs
  rw [wp_bind]
  iapply (convX_run m d 0 0 hO) $$ [B0 S0 HO]
  · isplitr; · iexact Hl
    isplitl [B0]; · iexact B0
    isplitl [S0] <;> iassumption
  iintro ⟨X0, T0, H0, HO⟩
  iapply (startX_run m d 2 0) $$ [X0 T0]
  · isplitl [X0] <;> iassumption
  iintro B0
  unfold runs
  rw [wp_bind]
  iapply (convX_run m d 1 1 hO) $$ [B1 S1 HO]
  · isplitr; · iexact Hl
    isplitl [B1]; · iexact B1
    isplitl [S1] <;> iassumption
  iintro ⟨X1, T1, H1, HO⟩
  iapply (startX_run m d 3 1) $$ [X1 T1]
  · isplitl [X1] <;> iassumption
  iintro B1
  unfold runs
  rw [wp_bind]
  iapply (convX_run m d 2 0 hO) $$ [B0 S2 HO]
  · isplitr; · iexact Hl
    isplitl [B0]; · iexact B0
    isplitl [S2] <;> iassumption
  iintro ⟨X0, T0, H2, HO⟩
  iapply (convX_run m d 3 1 hO) $$ [B1 S3 HO]
  · isplitr; · iexact Hl
    isplitl [B1]; · iexact B1
    isplitl [S3] <;> iassumption
  iintro ⟨X1, T1, H3, HO⟩
  iapply Hk
  isplitl [X0 T0 X1 T1]
  · isplitl [X0 T0]; · isplitl [X0] <;> iassumption
    isplitl [X1] <;> iassumption
  isplitl [H0 H1 H2 H3]
  · isplitl [H0]; · iexact H0
    isplitl [H1]; · iexact H1
    isplitl [H2] <;> iassumption
  iexact HO

/-! ### The whole body -/

/-- What a device sends with and ends its sends with. -/
def toPass (r : Fin 3) (b : Fin 4) : sProp 𝕄 :=
  iprop(dutyTok ER (sendCell d r b) 0 (0 : Fin 3) ∗ dutyTok ER (recvCell (sendTo d r) r b) 0 (0 : Fin 3)
    ∗ atPos ER (sendCell d r b) 0 (∅ : Finset (Fin 3)) 0)

/-- The positions of the send cells of a part. -/
def sendAt (r : Fin 3) : sProp 𝕄 := bigSep Finset.univ fun b : Fin 4 => atPos ER (sendCell d r b) 0 (∅ : Finset (Fin 3)) 0

/-- The slots of a part, its receiver's slots and its duties are what its sends take. -/
theorem toSend_intro (r : Fin 3) :
    iprop((bigSep Finset.univ fun b : Fin 4 => some' d (sbSl r b)) ∗ (bigSep Finset.univ fun b : Fin 4 => some' (sendTo d r) (rbSl r b))
        ∗ bigSep Finset.univ fun b : Fin 4 => toPass d r b)
      ⊢ (iprop((bigSep Finset.univ fun b : Fin 4 => toSend d r b) ∗ sendAt d r) : sProp 𝕄) := by
  unfold toPass toSend sendAt
  have h (A B C D E : sProp 𝕄) : iprop(A ∗ B ∗ C ∗ D ∗ E) ⊢ iprop((A ∗ B ∗ C ∗ D) ∗ E) := by
    iintro ⟨H1, H2, H3, H4, H5⟩
    isplitr [H5]
    · isplitl [H1]; · iexact H1
      isplitl [H2]; · iexact H2
      isplitl [H3] <;> iassumption
    iexact H5
  rw [← bigSep_sep', ← bigSep_sep', ← bigSep_sep']
  exact bigSep_mono fun b _ => h _ _ _ _ _

theorem toEnd_intro (r : Fin 3) :
    iprop((bigSep Finset.univ fun b : Fin 4 => cred (tallyAt (sendCell d r b) () N)) ∗ sendAt d r)
      ⊢ (bigSep Finset.univ fun b : Fin 4 => toEnd d r b : sProp 𝕄) := by
  unfold toEnd sendAt
  rw [← bigSep_sep']

/-- What a device has of the protocol. -/
def ghost : sProp 𝕄 :=
  iprop(toMeet d ∗ (bigSep Finset.univ fun r : Fin 3 => bigSep Finset.univ fun b : Fin 4 => toPass d r b)
    ∗ bigSep Finset.univ fun r : Fin 3 => toGet d r)

/-- The counters of the protocol's cells, closed. -/
def closed : sProp 𝕄 := iprop(semVal (barCell d) 0 ∗ sendZero d ∗ bigSep Finset.univ fun r : Fin 3 => recvZero d r)

/-- The body after it has read its device. -/
def steps : P F PUnit := do
  start d
  barrier d
  convAll
  sendPart d 0
  sendPart d 1
  sendPart d 2
  ownAll d
  drainAll d
  sentAll 0
  sentAll 1
  sentAll 2

/-- The run of these steps: from the inputs, the result's buffer at any contents, its buffers and its part of the protocol to the
    result computed, everything else given back and every counter at zero. -/
theorem steps_run {Q : PUnit → sProp 𝕄} :
    iprop(recs m K ∗ levAts L lv ∗ owe d (O₀ d) ∗ ghost d ∗ inputs m d ∗ whole' d main_v1 ∗ scratch d ∗ idle d)
      ⊢ iprop((iprop(owe d 0 ∗ closed d ∗ inputs m d ∗ ((d : Thread nD τ).loc main_v1 ↦{fullShare} outVal m d) ∗ scratch d ∗ idle d) -∗ Q ⟨⟩)
          -∗ runs d (steps d) Q) := by
  unfold ghost closed steps
  iintro ⟨#HR, #Hl, HO, ⟨Hm, Hp, Hg⟩, Hb⟩ Hk
  ihave Hb := (ready_intro m d) $$ Hb
  unfold ready
  icases Hb with ⟨Hsp, ⟨X0, X1⟩, ⟨W0, W1, W2, W3⟩, ⟨O0, O1⟩, Hxb, Hsb, Hrb, How, Hfo⟩
  ihave Hp := (Entails.of_eq (three _)) $$ Hp
  icases Hp with ⟨P0, P1, P2⟩
  ihave Hsb := (Entails.of_eq (three _)) $$ Hsb
  icases Hsb with ⟨S0, S1, S2⟩
  unfold runs
  rw [wp_bind]
  iapply (start_run m d) $$ [W0 W1 X0 X1]
  · isplitl [W0 W1]; · isplitl [W0] <;> iassumption
    isplitl [X0] <;> iassumption
  iintro ⟨⟨W0, W1⟩, HX⟩
  rw [wp_bind]
  iapply (barrier_run m K d) $$ [HO Hm Hrb]
  · isplitr; · iexact HR
    isplitr; · iexact Hl
    isplitl [HO]; · iexact HO
    isplitl [Hm] <;> iassumption
  iintro ⟨HO, Hbz, Hto⟩
  ihave Hto := (Entails.of_eq (three _)) $$ Hto
  icases Hto with ⟨R0, R1, R2⟩
  ihave U0 := (toSend_intro d 0) $$ [S0 R0 P0]
  · isplitl [S0]; · iexact S0
    isplitl [R0] <;> iassumption
  icases U0 with ⟨U0, A0⟩
  ihave U1 := (toSend_intro d 1) $$ [S1 R1 P1]
  · isplitl [S1]; · iexact S1
    isplitl [R1] <;> iassumption
  icases U1 with ⟨U1, A1⟩
  ihave U2 := (toSend_intro d 2) $$ [S2 R2 P2]
  · isplitl [S2]; · iexact S2
    isplitl [R2] <;> iassumption
  icases U2 with ⟨U2, A2⟩
  rw [wp_bind]
  iapply (convAll_run m d (low_owedR d (unsent 0))) $$ [HX Hxb HO]
  · isplitr; · iexact Hl
    isplitl [HX]; · iexact HX
    isplitl [Hxb] <;> iassumption
  iintro ⟨HX, Hxa, HO⟩
  rw [wp_bind]
  iapply (sendPart_run m K d 0) $$ [W0 W1 W2 W3 Hxa HO U0]
  · isplitr; · iexact HR
    isplitr; · iexact Hl
    isplitl [W0 W1 W2 W3]
    · unfold wReady
      isplitl [W0]; · iexact W0
      isplitl [W1]; · iexact W1
      isplitl [W2] <;> iassumption
    isplitl [Hxa]; · iexact Hxa
    isplitl [HO]; · iexact HO
    iexact U0
  iintro ⟨HW, Hxa, HO, C0⟩
  rw [wp_bind]
  iapply (sendPart_run m K d 1) $$ [HW Hxa HO U1]
  · isplitr; · iexact HR
    isplitr; · iexact Hl
    isplitl [HW]; · iexact HW
    isplitl [Hxa]; · iexact Hxa
    isplitl [HO]; · iexact HO
    iexact U1
  iintro ⟨HW, Hxa, HO, C1⟩
  rw [wp_bind]
  iapply (sendPart_run m K d 2) $$ [HW Hxa HO U2]
  · isplitr; · iexact HR
    isplitr; · iexact Hl
    isplitl [HW]; · iexact HW
    isplitl [Hxa]; · iexact Hxa
    isplitl [HO]; · iexact HO
    iexact U2
  iintro ⟨HW, Hxa, HO', C2⟩
  ihave HO := (show owe d (owedR d (unsent (4 * (2 : Fin 3).val + 4))) ⊢ (owe d 0 : sProp 𝕄) from
    Entails.of_eq (congrArg (owe d) ((congrArg (owedR d) unsent_all).trans (owedR_empty d)))) $$ HO'
  rw [wp_bind]
  iapply (ownAll_run m d) $$ [HW Hxa HO O0 O1 How]
  · isplitr; · iexact Hl
    isplitl [HW]; · iexact HW
    isplitl [Hxa]; · iexact Hxa
    isplitl [HO]; · iexact HO
    isplitl [O0]; · iexact O0
    isplitl [O1] <;> iassumption
  iintro ⟨HW, Hxa, HO, O0, O1, How⟩
  unfold xIdle
  icases HX with ⟨⟨X0, T0⟩, X1, T1⟩
  ihave Hg := (Entails.of_eq (three _)) $$ Hg
  rw [wp_bind]
  iapply (drainAll_run m K d) $$ [Hg Hfo T0 T1 HO]
  · isplitr; · iexact HR
    isplitr; · iexact Hl
    isplitl [Hg]; · iexact Hg
    isplitl [Hfo]; · iexact Hfo
    isplitl [T0 T1]; · isplitl [T0] <;> iassumption
    iexact HO
  iintro ⟨Hgot, Hrz, Hfd, ⟨T0, T1⟩, HO⟩
  ihave E0 := (toEnd_intro d 0) $$ [C0 A0]
  · isplitl [C0] <;> iassumption
  ihave E1 := (toEnd_intro d 1) $$ [C1 A1]
  · isplitl [C1] <;> iassumption
  ihave E2 := (toEnd_intro d 2) $$ [C2 A2]
  · isplitl [C2] <;> iassumption
  rw [wp_bind]
  iapply (sentAll_run m K d 0) $$ [E0 HO]
  · isplitr; · iexact HR
    isplitr; · iexact Hl
    isplitl [E0] <;> iassumption
  iintro ⟨E0, HO⟩
  rw [wp_bind]
  iapply (sentAll_run m K d 1) $$ [E1 HO]
  · isplitr; · iexact HR
    isplitr; · iexact Hl
    isplitl [E1] <;> iassumption
  iintro ⟨E1, HO⟩
  iapply (sentAll_run m K d 2) $$ [E2 HO]
  · isplitr; · iexact HR
    isplitr; · iexact Hl
    isplitl [E2] <;> iassumption
  iintro ⟨E2, HO⟩
  unfold wReady
  icases HW with ⟨W0, W1, W2, W3⟩
  ihave HD := (done_elim m d) $$ [Hsp X0 T0 X1 T1 W0 W1 W2 W3 O0 O1 Hxa E0 E1 E2 Hgot How Hfd]
  · unfold done xIdle
    isplitl [Hsp]; · iexact Hsp
    isplitl [X0 T0 X1 T1]
    · isplitl [X0 T0]; · isplitl [X0] <;> iassumption
      isplitl [X1] <;> iassumption
    isplitl [W0 W1 W2 W3]
    · isplitl [W0]; · iexact W0
      isplitl [W1]; · iexact W1
      isplitl [W2] <;> iassumption
    isplitl [O0 O1]; · isplitl [O0] <;> iassumption
    isplitl [Hxa]; · iexact Hxa
    isplitl [E0 E1 E2]
    · iapply (Entails.of_eq (three _).symm)
      isplitl [E0]; · iexact E0
      isplitl [E1] <;> iassumption
    isplitl [Hgot]; · iexact Hgot
    isplitl [How] <;> iassumption
  icases HD with ⟨Hi, Hv, Hsc, Hid, Hsz⟩
  iapply Hk
  isplitl [HO]; · iexact HO
  isplitl [Hbz Hsz Hrz]
  · isplitl [Hbz]; · iexact Hbz
    isplitl [Hsz]; · iexact Hsz
    iapply (Entails.of_eq (three _).symm); iexact Hrz
  isplitl [Hi]; · iexact Hi
  isplitl [Hv]; · iexact Hv
  isplitl [Hsc] <;> iassumption

set_option maxRecDepth 65536 in
/-- The same of the body. -/
theorem body_run {Q : PUnit → sProp 𝕄} :
    iprop(recs m K ∗ levAts L lv ∗ owe d (O₀ d) ∗ ghost d ∗ inputs m d ∗ whole' d main_v1 ∗ scratch d ∗ idle d)
      ⊢ iprop((iprop(owe d 0 ∗ closed d ∗ inputs m d ∗ ((d : Thread nD τ).loc main_v1 ↦{fullShare} outVal m d) ∗ scratch d ∗ idle d) -∗ Q ⟨⟩)
          -∗ runs d body Q) := by
  have hd : runs d (steps d) Q ⊢ runs d body Q := by
    have h : runs d (steps d) Q ⊢ |={Set.univ}=> runs d (steps d) Q := fupd_intro
    unfold body runs
    rw [wp_bind]
    show _ ⊢ wp frame (wpE (defs₀ (F := F)) 𝒱₀ (d : Thread nD τ) none) Set.univ (.op .deviceId .ret) _
    rw [wp_deviceId, wp_ret]
    exact h
  exact (steps_run m K d).trans (Laws.wand_mono_right hd)

end Cert.KernelIdeal.Run

end
-- ==== Proof.Start.lean ====
/- The start of a run: the protocol's cells set up on every device, the permissions dealt to the devices that use them,
   and the credit that a device finds on its own cells. -/
module

public import proofs.«01_k».proof.Proof.Whole

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ### The semaphores -/

/-- The kernel's own semaphores: a send and a receive one per block, and eight for the transfers on the device. -/
abbrev OwnIx : Type := (Bool × Fin 3 × Fin 4) ⊕ (Fin 4 ⊕ Fin 2 ⊕ Fin 2)

abbrev osem : OwnIx → SemLoc sig := fun k => match k with
  | .inl k => csem (some k)
  | .inr (.inl k) => .dma (wSem k)
  | .inr (.inr (.inl k)) => .dma (oSem k)
  | .inr (.inr (.inr k)) => .dma (tSem k)

theorem osem_injective : Function.Injective osem := by
  rintro (⟨_ | _, r, b⟩ | k | k | k) (⟨_ | _, r', b'⟩ | k' | k' | k') h
  all_goals
    have hv := congrArg Fin.val (SemLoc.dma.inj h)
    simp only [sSem_val, rSem_val, wSem_val, oSem_val, tSem_val] at hv
    first
      | exact absurd hv (by omega)
      | exact congrArg Sum.inl (Option.some.inj (csem_injective h))
      | exact congrArg (fun k => Sum.inr (Sum.inl k)) (Fin.ext (by omega))
      | exact congrArg (fun k => Sum.inr (Sum.inr (Sum.inl k))) (Fin.ext (by omega))
      | exact congrArg (fun k => Sum.inr (Sum.inr (Sum.inr k))) (Fin.ext (by omega))

theorem ownSemFacts : Pipeline.OwnSemFacts cfg0.spec osem where
  isScoped := by decide
  inj := osem_injective
  disj _ w := w.elim0

/-- Over the cells of a device: the barrier's part, the send cells' and the receive cells'. -/
theorem cells_eq (Φ : CellIx → sProp 𝕄) : bigSep Finset.univ Φ
    = iprop(Φ none ∗ (bigSep Finset.univ fun r : Fin 3 => bigSep Finset.univ fun b : Fin 4 => Φ (some (false, r, b)))
      ∗ bigSep Finset.univ fun r : Fin 3 => bigSep Finset.univ fun b : Fin 4 => Φ (some (true, r, b))) := by
  rw [bigSep_univ_equiv (Equiv.optionEquivSumPUnit _).symm, BI.bigSep_univ_sum, bigSep_univ_prod,
    BI.bigSep_univ_eq_bigSepL [false, true] (by decide) (by decide),
    BI.bigSep_univ_eq_bigSepL [(PUnit.unit : PUnit.{1})] (by decide) (by decide)]
  simp only [bigSepL, bigSep_univ_prod]
  exact equiv_iff.mp ⟨BI.sep_comm, BI.sep_comm⟩

theorem ownSems_eq (d : Dev nD) :
    (Pipeline.ownSems0 (Ix := Unit) (Name := ℕ) (U := UU) (Lvl := ℕ) (Val := Elt F) (τ := τ) osem d : sProp 𝕄)
      = iprop((sendZero d ∗ bigSep Finset.univ fun r : Fin 3 => recvZero d r) ∗ idle d) := by
  unfold Pipeline.ownSems0
  rw [BI.bigSep_univ_sum, BI.bigSep_univ_sum, BI.bigSep_univ_sum, bigSep_univ_prod,
    BI.bigSep_univ_eq_bigSepL [false, true] (by decide) (by decide)]
  simp only [bigSepL, bigSep_univ_prod]
  rfl

/-- The barrier semaphore is the one that the launch does not scope. -/
theorem unscopedSems_eq (d : Dev nD) : (unscopedSems0 d : sProp 𝕄) = semVal (barCell d) 0 := by
  unfold unscopedSems0; rw [bigSep_eq_bigSepL_of_eq [SemLoc.reg bar] (by decide) (by decide)]; rfl

/-! ### The permissions minted -/

/-- The duties of a device's own cells: three of its barrier, one of each send and receive cell. -/
abbrev TokIx : Type := Fin 3 ⊕ (Bool × Fin 3 × Fin 4)

abbrev tokOf (cj : Dev nD × TokIx) : GSem nD τ sig × ℕ × Fin 3 := match cj.2 with
  | .inl r => (barCell cj.1, 0, r)
  | .inr k => (kcell (cj.1, some k), 0, 0)

theorem tokOf_injective : Function.Injective tokOf := by
  rintro ⟨c, r | k⟩ ⟨c', r' | k'⟩ h
  all_goals
    have h1 := kcell_injective (congrArg (fun x : GSem nD τ sig × ℕ × Fin 3 => x.1) h)
    have h2 := congrArg (fun x : GSem nD τ sig × ℕ × Fin 3 => x.2.2) h
    obtain ⟨hc, hk⟩ := Prod.mk.inj h1
  · exact Prod.ext hc (congrArg Sum.inl h2)
  · cases hk
  · cases hk
  · exact Prod.ext hc (congrArg Sum.inr (Option.some.inj hk))

def meshCells : Finset (GSem nD τ sig) := Finset.univ.map ⟨kcell, kcell_injective⟩
def meshToks : Finset (GSem nD τ sig × ℕ × Fin 3) := Finset.univ.map ⟨tokOf, tokOf_injective⟩

def u₀ : UU :=
  (initOf (Pipeline.cells cfgs cellOf_inj) (Pipeline.launchToks cfgs cellOf_inj), (initOf meshCells meshToks, 1))

/-- The duties of device `c`'s own cells. -/
def toks (c : Dev nD) : sProp 𝕄 :=
  iprop((bigSep Finset.univ fun r : Fin 3 => dutyTok ER (barCell c) 0 r)
    ∗ (bigSep Finset.univ fun r : Fin 3 => bigSep Finset.univ fun b : Fin 4 => dutyTok ER (sendCell c r b) 0 (0 : Fin 3))
    ∗ bigSep Finset.univ fun r : Fin 3 => bigSep Finset.univ fun b : Fin 4 => dutyTok ER (recvCell c r b) 0 (0 : Fin 3))

/-- What device `c` has of the protocol before the cells are set up. -/
def Minted (c : Dev nD) : sProp 𝕄 :=
  iprop((bigSep Finset.univ fun k : CellIx => roundState ER (Rd (F := F) m) (kcell (c, k)) 0)
    ∗ (bigSep Finset.univ fun k : CellIx => atPos ER (kcell (c, k)) 0 (∅ : Finset (Fin 3)) 0)
    ∗ (bigSep Finset.univ fun k : CellIx => reached ER (kcell (c, k)) 0) ∗ toks c)

theorem toks_mint : bigSep meshToks (fun x => (dutyTok ER x.1 x.2.1 x.2.2 : sProp 𝕄))
    = bigSep Finset.univ fun c : Dev nD => toks c := by
  unfold meshToks
  rw [bigSep_map, bigSep_univ_prod]
  refine bigSep_congr fun c _ => ?_
  rw [BI.bigSep_univ_sum, bigSep_univ_prod, BI.bigSep_univ_eq_bigSepL [false, true] (by decide) (by decide)]
  simp only [bigSepL, bigSep_univ_prod]
  rfl

theorem mint : BI.own (ER (initOf meshCells meshToks)) ⊢ (|==> bigSep Finset.univ (Minted m) : sProp 𝕄) := by
  have hX (Φ : GSem nD τ sig → sProp 𝕄) : bigSep meshCells Φ
      = bigSep Finset.univ fun c : Dev nD => bigSep Finset.univ fun k : CellIx => Φ (kcell (c, k)) := by
    unfold meshCells; rw [bigSep_map, bigSep_univ_prod]; rfl
  iintro HX
  imod (Rounds.fund ER (Rd (F := F) m) meshCells meshToks) $$ HX with ⟨Hst, Hr, Hat, Htok⟩
  imodintro
  ihave Hst := (Entails.of_eq (hX fun g => roundState ER (Rd (F := F) m) g 0)) $$ Hst
  ihave Hat := (Entails.of_eq (hX fun g => atPos ER g 0 ∅ 0)) $$ Hat
  ihave Hr := (Entails.of_eq (hX fun g => reached ER g 0)) $$ Hr
  ihave Htok := (Entails.of_eq toks_mint) $$ Htok
  unfold Minted; simp only [bigSep_sep']
  isplitl [Hst]; · iexact Hst
  isplitl [Hat]; · iexact Hat
  isplitl [Hr]; · iexact Hr
  iexact Htok

/-! ### The cells set up -/

theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : CellIx => semVal (kcell (c, k)) 0) ∗ idle c) : sProp 𝕄) := by
  rw [ownSems_eq, unscopedSems_eq, cells_eq]
  unfold sendZero recvZero
  iintro ⟨⟨⟨HS, HR⟩, HI⟩, HB⟩
  isplitr [HI]
  · isplitl [HB]; · iexact HB
    isplitl [HS]; · iexact HS
    iexact HR
  · iexact HI

theorem cells_alloc (c : Dev nD) :
    iprop(Pipeline.ownSems0 (Ix := Unit) (Name := ℕ) (U := UU) (Lvl := ℕ) (Val := Elt F) (τ := τ) osem c ∗ unscopedSems0 c
        ∗ Minted m c)
      ⊢ |={Set.univ}=> iprop((bigSep Finset.univ fun k => iprop(∃ κ : ℕ, cellInv ER (Rd (F := F) m) κ (kcell (c, k))))
          ∗ (bigSep Finset.univ fun k : CellIx => atPos ER (kcell (c, k)) 0 (∅ : Finset (Fin 3)) 0)
          ∗ (bigSep Finset.univ fun k : CellIx => reached ER (kcell (c, k)) 0) ∗ toks c ∗ idle c) := by
  have hinv : iprop((bigSep Finset.univ fun k : CellIx => semVal (kcell (c, k)) 0)
        ∗ bigSep Finset.univ fun k : CellIx => roundState ER (Rd (F := F) m) (kcell (c, k)) 0)
      ⊢ (|={Set.univ}=> bigSep Finset.univ fun k => iprop(∃ κ : ℕ, cellInv ER (Rd (F := F) m) κ (kcell (c, k))) : sProp 𝕄) := by
    rw [← bigSep_sep']
    exact (bigSep_mono fun k _ => (Rounds.body_intro ER (Rd (F := F) m) (kcell (c, k))).trans inv_alloc).trans (bigSep_fupd _ _)
  unfold Minted
  iintro ⟨Hos, Hus, Hst, Hat, Hr, Htok⟩
  ihave Hv := (sems_split (F := F) c) $$ [Hos Hus]
  · isplitl [Hos] <;> iassumption
  icases Hv with ⟨Hv, Hidle⟩
  imod hinv $$ [Hv Hst] with Hinv
  · isplitl [Hv] <;> iassumption
  imodintro
  isplitl [Hinv]; · iexact Hinv
  isplitl [Hat]; · iexact Hat
  isplitl [Hr]; · iexact Hr
  isplitl [Htok] <;> iassumption

/-! ### The permissions dealt -/

/-- The signals of a barrier among the devices that send them. -/
def barDeal : Dev nD × Fin 3 ≃ Dev nD × Fin 3 :=
  Equiv.ofBijective (fun p => (signalTo p.1 p.2, p.2.rev)) (by decide)
/-- The arrivals of a part among the devices that send them. -/
def recvDeal : Dev nD × Fin 3 ≃ Dev nD × Fin 3 :=
  Equiv.ofBijective (fun p => (sendTo p.1 p.2, p.2)) (by decide)

/-- The duties that device `c` pays. -/
def payToks (c : Dev nD) : sProp 𝕄 :=
  iprop((bigSep Finset.univ fun j : Fin 3 => dutyTok ER (barCell (signalTo c j)) 0 j.rev)
    ∗ (bigSep Finset.univ fun r : Fin 3 => bigSep Finset.univ fun b : Fin 4 => dutyTok ER (sendCell c r b) 0 (0 : Fin 3))
    ∗ bigSep Finset.univ fun r : Fin 3 => bigSep Finset.univ fun b : Fin 4 =>
        dutyTok ER (recvCell (sendTo c r) r b) 0 (0 : Fin 3))

theorem toks_deal : (bigSep Finset.univ fun c : Dev nD => (toks c : sProp 𝕄)) = bigSep Finset.univ fun c : Dev nD => payToks c := by
  have hB : (bigSep Finset.univ fun c : Dev nD => bigSep Finset.univ fun r : Fin 3 => (dutyTok ER (barCell c) 0 r : sProp 𝕄))
      = bigSep Finset.univ fun c : Dev nD => bigSep Finset.univ fun j : Fin 3 => dutyTok ER (barCell (signalTo c j)) 0 j.rev :=
    ((bigSep_univ_prod _).symm.trans (bigSep_univ_equiv barDeal fun p : Dev nD × Fin 3 => (dutyTok ER (barCell p.1) 0 p.2 : sProp 𝕄))).trans
      (bigSep_univ_prod fun p : Dev nD × Fin 3 => (dutyTok ER (barCell (signalTo p.1 p.2)) 0 p.2.rev : sProp 𝕄))
  have hR : (bigSep Finset.univ fun c : Dev nD => bigSep Finset.univ fun r : Fin 3 => bigSep Finset.univ fun b : Fin 4 =>
        (dutyTok ER (recvCell c r b) 0 (0 : Fin 3) : sProp 𝕄))
      = bigSep Finset.univ fun c : Dev nD => bigSep Finset.univ fun r : Fin 3 => bigSep Finset.univ fun b : Fin 4 =>
        dutyTok ER (recvCell (sendTo c r) r b) 0 (0 : Fin 3) :=
    ((bigSep_univ_prod _).symm.trans (bigSep_univ_equiv recvDeal fun p : Dev nD × Fin 3 =>
        (bigSep Finset.univ fun b : Fin 4 => dutyTok ER (recvCell p.1 p.2 b) 0 (0 : Fin 3) : sProp 𝕄))).trans
      (bigSep_univ_prod fun p : Dev nD × Fin 3 =>
        (bigSep Finset.univ fun b : Fin 4 => dutyTok ER (recvCell (sendTo p.1 p.2) p.2 b) 0 (0 : Fin 3) : sProp 𝕄))
  unfold toks payToks
  rw [bigSep_sep', bigSep_sep', bigSep_sep', bigSep_sep', hB, hR]

/-- The part of the protocol that only device `c` holds, but for the credit. -/
def mine (c : Dev nD) : sProp 𝕄 :=
  iprop((bigSep Finset.univ fun k : CellIx => atPos ER (kcell (c, k)) 0 (∅ : Finset (Fin 3)) 0) ∗ payToks c ∗ idle c)

/-- What device `c` holds once the cells of the mesh are set up. -/
def Dealt (c : Dev nD) : sProp 𝕄 := iprop(∃ K, recs m K ∗ mine c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal :
    (bigSep Finset.univ fun c : Dev nD => iprop((bigSep Finset.univ fun k => iprop(∃ κ : ℕ, cellInv ER (Rd (F := F) m) κ (kcell (c, k))))
          ∗ (bigSep Finset.univ fun k : CellIx => atPos ER (kcell (c, k)) 0 (∅ : Finset (Fin 3)) 0)
          ∗ (bigSep Finset.univ fun k : CellIx => reached ER (kcell (c, k)) 0) ∗ toks c ∗ idle c) : sProp 𝕄)
      ⊢ bigSep Finset.univ (Dealt m) := by
  have hd (K : Dev nD × CellIx → ℕ) (c : Dev nD) : iprop(recs m K ∗ mine c) ⊢ Dealt m c := by
    unfold Dealt
    iintro H
    iexists K
    iexact H
  rw [bigSep_sep', bigSep_sep', bigSep_sep', bigSep_sep', toks_deal,
    ← bigSep_univ_prod (fun ck : Dev nD × CellIx => iprop(∃ κ : ℕ, cellInv ER (Rd (F := F) m) κ (kcell ck))),
    ← bigSep_univ_prod (fun ck : Dev nD × CellIx => (reached ER (kcell ck) 0 : sProp 𝕄))]
  iintro ⟨HI, Hat, #HR, Htok, Hidle⟩
  ihave HK := (BI.bigSep_exists_pi Finset.univ (fun (ck : Dev nD × CellIx) (κ : ℕ) => (cellInv ER (Rd (F := F) m) κ (kcell ck) : sProp 𝕄))) $$ HI
  icases HK with ⟨%K, #HI⟩
  iapply (with_persistent (R := recs m K) fun c _ => hd K c)
  isplitr
  · unfold recs; isplitl; · iexact HI
    iexact HR
  · unfold mine
    simp only [bigSep_sep']
    isplitl [Hat]; · iexact Hat
    isplitl [Htok] <;> iassumption

/-- From every device's counters at zero and the minted permissions, what each device holds. -/
theorem setUp : (bigSep Finset.univ fun c => iprop(Pipeline.ownSems0 (Ix := Unit) (Name := ℕ) (U := UU) (Lvl := ℕ) (Val := Elt F) (τ := τ) osem c
      ∗ unscopedSems0 c ∗ Minted m c) : sProp 𝕄)
    ⊢ |={Set.univ}=> bigSep Finset.univ (Dealt m) :=
  ((bigSep_mono fun c _ => cells_alloc m c).trans (bigSep_fupd _ _)).trans (BI.fupd_mono (deal m))

/-! ### The credit at launch -/

theorem kcell_iff {a b : Dev nD} {k k' : CellIx} : kcell (a, k) = kcell (b, k') ↔ a = b ∧ k = k' :=
  ⟨fun h => Prod.mk.inj (kcell_injective h), fun h => by rw [h.1, h.2]⟩

theorem owedR_bar (d c : Dev nD) : owedR d Finset.univ (barCell c) () = 0 := by
  by_contra h
  obtain ⟨p, -, hp⟩ := owedR_pos (Nat.pos_of_ne_zero h)
  cases (kcell_iff.mp hp).2

theorem owedR_recv (d c : Dev nD) (r : Fin 3) (b : Fin 4) :
    owedR d Finset.univ (recvCell c r b) () = if sendTo d r = c then N else 0 := by
  unfold owedR
  rw [Finset.sum_apply, Finsupp.finset_sum_apply, Finset.sum_eq_single (r, b)]
  · rw [tallyAt_apply]
    refine if_congr ⟨fun h => (kcell_iff.mp h.1).1.symm, fun h => ⟨by rw [h], rfl⟩⟩ rfl rfl
  · intro p _ hp
    rw [tallyAt_apply, if_neg]
    intro h
    have h2 := Prod.mk.inj (Prod.mk.inj (Option.some.inj (kcell_iff.mp h.1).2)).2
    exact hp (Prod.ext h2.1.symm h2.2.symm)
  · exact fun h => absurd (Finset.mem_univ _) h

theorem O₀_bar (d c : Dev nD) : O₀ d (barCell c) ()
    = (if c = signalTo d 2 then 1 else 0) + (if c = signalTo d 1 then 1 else 0) + (if c = signalTo d 0 then 1 else 0) := by
  have h (j : Fin 3) : (tallyAt (barCell (signalTo d j)) () 1 : CellTallies nD τ sig Unit) (barCell c) () = if c = signalTo d j then 1 else 0 := by
    rw [tallyAt_apply]
    exact if_congr ⟨fun h => (kcell_iff.mp h.1).1, fun h => ⟨by rw [h], rfl⟩⟩ rfl rfl
  show (owedR d Finset.univ + _ + _ + _ : CellTallies nD τ sig Unit) (barCell c) () = _
  simp only [Pi.add_apply, Finsupp.add_apply]
  rw [owedR_bar, h, h, h, Nat.zero_add]

theorem O₀_recv (d c : Dev nD) (r : Fin 3) (b : Fin 4) : O₀ d (recvCell c r b) () = if sendTo d r = c then N else 0 := by
  have h (j : Fin 3) : (tallyAt (barCell (signalTo d j)) () 1 : CellTallies nD τ sig Unit) (recvCell c r b) () = 0 := by
    rw [tallyAt_apply, if_neg]
    intro h
    cases (kcell_iff.mp h.1).2
  show (owedR d Finset.univ + _ + _ + _ : CellTallies nD τ sig Unit) (recvCell c r b) () = _
  simp only [Pi.add_apply, Finsupp.add_apply]
  rw [owedR_recv, h, h, h]
  rfl

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => O₀_bar d c]
  revert c; decide

theorem launch_recv (c : Dev nD) (r : Fin 3) (b : Fin 4) :
    tallyOn (recvCell c r b) (launchCredit (Pipeline.owing O₀) 0 (recvCell c r b))
      = (tallyAt (recvCell c r b) () N : CellTallies nD τ sig Unit) := by
  unfold tallyAt
  refine congrArg _ (Finsupp.ext fun u => ?_)
  cases u
  rw [Pipeline.launchCredit_owing, Finsupp.single_eq_same, Finset.sum_congr rfl fun d _ => O₀_recv d c r b,
    Finset.sum_eq_single (srcOf c r)]
  · rw [if_pos (sendTo_srcOf c r)]
  · intro d _ hd
    rw [if_neg]
    intro h
    exact hd (by rw [← h, srcOf_sendTo])
  · exact fun h => absurd (Finset.mem_univ _) h

/-- A device finds three units for its barrier, and for each receive cell the units of a block. -/
theorem creds (c : Dev nD) : (Pipeline.launchCred O₀ c : sProp 𝕄)
    ⊢ iprop(cred (tallyAt (barCell c) () 3)
      ∗ bigSep Finset.univ fun r : Fin 3 => bigSep Finset.univ fun b : Fin 4 => cred (tallyAt (recvCell c r b) () N)) := by
  unfold Pipeline.launchCred
  refine (bigSep_subset (t := Finset.univ.map ⟨csem, csem_injective⟩) (Finset.subset_univ _)).trans ?_
  rw [bigSep_map, cells_eq]
  have hR : (bigSep Finset.univ fun r : Fin 3 => bigSep Finset.univ fun b : Fin 4 =>
        cred (tallyOn (recvCell c r b) (launchCredit (Pipeline.owing O₀) 0 (recvCell c r b))))
      ⊢ (bigSep Finset.univ fun r : Fin 3 => bigSep Finset.univ fun b : Fin 4 => cred (tallyAt (recvCell c r b) () N) : sProp 𝕄) :=
    bigSep_mono fun r _ => bigSep_mono fun b _ => Entails.of_eq (congrArg cred (launch_recv c r b))
  exact BI.sep_mono (Entails.of_eq (congrArg cred (launch_bar c))) ((show _ ⊢ _ from Laws.sep_elim_right).trans hR)

/-- What a device holds of the protocol, as its body takes it. -/
theorem ghost_intro (c : Dev nD) : iprop(Pipeline.launchCred O₀ c ∗ mine c) ⊢ (iprop(ghost c ∗ idle c) : sProp 𝕄) := by
  have hp : iprop((bigSep Finset.univ fun r : Fin 3 => bigSep Finset.univ fun b : Fin 4 => dutyTok ER (sendCell c r b) 0 (0 : Fin 3))
        ∗ (bigSep Finset.univ fun r : Fin 3 => bigSep Finset.univ fun b : Fin 4 => dutyTok ER (recvCell (sendTo c r) r b) 0 (0 : Fin 3))
        ∗ bigSep Finset.univ fun r : Fin 3 => bigSep Finset.univ fun b : Fin 4 => atPos ER (sendCell c r b) 0 (∅ : Finset (Fin 3)) 0)
      ⊢ (bigSep Finset.univ fun r : Fin 3 => bigSep Finset.univ fun b : Fin 4 => toPass c r b : sProp 𝕄) := by
    unfold toPass
    simp only [bigSep_sep']
    exact .rfl
  have hg : iprop((bigSep Finset.univ fun r : Fin 3 => bigSep Finset.univ fun b : Fin 4 => cred (tallyAt (recvCell c r b) () N))
        ∗ bigSep Finset.univ fun r : Fin 3 => bigSep Finset.univ fun b : Fin 4 => atPos ER (recvCell c r b) 0 (∅ : Finset (Fin 3)) 0)
      ⊢ (bigSep Finset.univ fun r : Fin 3 => toGet c r : sProp 𝕄) := by
    unfold toGet toRecv
    simp only [bigSep_sep']
    exact .rfl
  unfold mine payToks ghost toMeet
  rw [cells_eq]
  iintro ⟨Hc, ⟨HaB, HaS, HaR⟩, ⟨HtB, HtS, HtR⟩, Hi⟩
  ihave Hc := (creds (F := F) c) $$ Hc
  icases Hc with ⟨HcB, HcR⟩
  isplitr [Hi]
  · isplitl [HtB HcB HaB]
    · isplitl [HtB]; · iexact HtB
      isplitl [HcB] <;> iassumption
    isplitl [HtS HtR HaS]
    · iapply hp
      isplitl [HtS]; · iexact HtS
      isplitl [HtR] <;> iassumption
    · iapply hg
      isplitl [HcR] <;> iassumption
  · iexact Hi

end Cert.KernelIdeal.Run

end
-- ==== Proof.Run.lean ====
/- The whole run on the mesh: every device ends with its part of the result, its inputs as they were and every counter
   at zero. -/
module

public import proofs.«01_k».proof.Proof.Start
public import Idealize.ShloMosaic.Lib.Pipeline.CollectiveSegs

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What device `c` holds before the body, but for the buffers that it works in. -/
def before (c : Dev nD) : sProp 𝕄 :=
  iprop((∃ K, recs m K) ∗ levAts L lv ∗ (ghost c ∗ idle c) ∗ inputs m c ∗ whole' c main_v1)

/-- What device `c` holds after the body. -/
def after (c : Dev nD) : sProp 𝕄 :=
  iprop(closed c ∗ inputs m c ∗ ((c : Thread nD τ).loc main_v1 ↦{fullShare} outVal m c) ∗ scratch c ∗ idle c)

/-- What of that a device keeps to the end of the run. -/
def kept (c : Dev nD) : sProp 𝕄 :=
  iprop(unscopedSems0 c ∗ inputs m c ∗ ((c : Thread nD τ).loc main_v1 ↦{fullShare} outVal m c))

def dats (_ : Fin 1) (c : Dev nD) : Pipeline.Dat τ (Elt F) Unit ℕ UU ℕ cfg0 c where
  A w := w.elim0
  after w := w.elim0
  Φ t := match t with
    | ⟨0, _⟩ => iprop(before m c ∗ scratch c)
    | ⟨_ + 1, _⟩ => after m c
  q _ := fullShare
  owed t := match t with
    | ⟨0, _⟩ => O₀ c
    | ⟨_ + 1, _⟩ => 0

set_option maxRecDepth 65536 in
/-- The body meets what the launch asks of it. -/
theorem body_obligation (c : Dev nD) : Pipeline.BodyObligation (dats m 0 c) (defs₀ (F := F)) 𝒱₀ () Set.univ := fun t => by
  have h : iprop(iprop(before m c ∗ scratch c) ∗ (dats m 0 c).owesAt () t0_0.castSucc ∗ emp)
      ⊢ runs c body fun _ => iprop(after m c ∗ (dats m 0 c).owesAt () t0_0.succ ∗ emp) := by
    unfold before Pipeline.Dat.owesAt Pipeline.owesWithin
    rw [show (dats m 0 c).owed t0_0.castSucc = O₀ c from rfl, show (dats m 0 c).owed t0_0.succ = 0 from rfl]
    iintro ⟨⟨⟨⟨%K, HK⟩, HL, ⟨Hg, Hi⟩, Hin, Hv⟩, Hs⟩, ⟨%W, -, HO⟩, -⟩
    iapply (body_run m K c) $$ [HK HL Hg Hi Hin Hv Hs HO]
    · isplitl [HK]; · iexact HK
      isplitl [HL]; · iexact HL
      isplitl [HO]; · unfold owe; iexists W; iexact HO
      isplitl [Hg]; · iexact Hg
      isplitl [Hin]; · iexact Hin
      isplitl [Hv]; · iexact Hv
      isplitl [Hs] <;> iassumption
    unfold owe
    iintro ⟨⟨%W', HO⟩, Hc⟩
    isplitl [Hc]; · unfold after; iexact Hc
    isplitl [HO]
    · iexists W'
      isplitr; · ipureintro; exact fun _ _ => Or.inl trivial
      iexact HO
    · iempintro
  rw [fin_N0 t]
  rw [← body_eq t0_0] at h
  exact h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Dealt m c)
      ⊢ |={Set.univ}=> iprop(before m c ∗ emp) := by
  have hr : (Pipeline.unscopedRestP Pipeline.Prefetch.none cfg0.spec c (fun b => m ((c : Thread nD τ).loc b)) : sProp 𝕄)
      = iprop(((c : Thread nD τ).loc main_arg0 ↦{fullShare} mx m c) ∗ ((c : Thread nD τ).loc main_arg1 ↦{fullShare} mw m c)
        ∗ ((c : Thread nD τ).loc main_v1 ↦{fullShare} m ((c : Thread nD τ).loc main_v1))) :=
    Pipeline.unscopedRestP_eq_of_list cfg0.spec c Pipeline.Prefetch.none (fun b => m ((c : Thread nD τ).loc b))
      [main_arg0, main_arg1, main_v1] (by decide) (by decide)
  rw [hr]
  unfold Dealt before inputs
  iintro ⟨⟨H0, H1, Hv⟩, HL, Hc, -, %K, HK, Hm⟩
  ihave Hg := (ghost_intro (F := F) c) $$ [Hc Hm]
  · isplitl [Hc] <;> iassumption
  imodintro
  isplitl
  · isplitl [HK]; · iexists K; iexact HK
    isplitl [HL]; · iexact HL
    isplitl [Hg]; · iexact Hg
    isplitl [H0 H1]
    · isplitl [H0] <;> iassumption
    iexists _; iexact Hv
  · iempintro

theorem enter (c : Dev nD) :
    iprop(before m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(before m c ∗ scratch c) from rfl, scopedRest0_eq]
  unfold scratch
  iintro ⟨Hs, -, Hr⟩
  isplitl [Hs]; · iexact Hs
  iexact Hr

theorem leave (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = after m c from rfl, scopedRest0_eq, ownSems_eq]
  unfold kept
  rw [unscopedSems_eq]
  unfold after closed scratch
  iintro ⟨⟨HB, HS, HR⟩, Hin, Hv, Hs, Hi⟩
  isplitl [HB Hin Hv]
  · isplitl [HB]; · iexact HB
    isplitl [Hin] <;> iassumption
  isplitl [HS HR Hi]
  · isplitr [Hi]
    · isplitl [HS] <;> iassumption
    iexact Hi
  iexact Hs

/-- What is known of the memory at the end, on device `c`. -/
def Ends (c : Dev nD) (s : MemSt nD τ sig (Elt F)) : Prop :=
  s.mem ((c : Thread nD τ).loc main_v1) = outVal m c ∧ s.mem ((c : Thread nD τ).loc main_arg0) = mx m c
    ∧ s.mem ((c : Thread nD τ).loc main_arg1) = mw m c

theorem ends_read (c : Dev nD) (s' : Phys nD τ sig (Elt F)) :
    iprop(kept m c ∗ emp ∗ SI s')
      ⊢ |={Set.univ}=> iprop(⌜(∀ sm : SemLoc sig, sm.isScoped .tc = false → s'.mem.sem ((c.tc : Thread nD τ), sm) = 0) ∧ Ends m c s'.mem⌝ ∗ SI s') := by
  unfold kept inputs
  iintro ⟨⟨Hu, ⟨H0, H1⟩, Hv⟩, -, HSI⟩
  icombine HSI H0 gives %h0
  icombine HSI H1 gives %h1
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hv i (Finset.mem_univ i), funext fun i => h0 i (Finset.mem_univ i), funext fun i => h1 i (Finset.mem_univ i)⟩
  · iexact HSI

set_option maxRecDepth 65536 in
/-- From any memory with every counter at zero, every fair execution on the four devices terminates, each device's part
    of the result as computed, its inputs unchanged, and every counter at zero. -/
theorem run_main : θ_run defs (onTc (τ := τ) (main (F := F))) ⟨m, fun _ => 0, ρ⟩
    (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w => w.elim0)
    (G := Minted m) (G' := Dealt m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (mint m) $$ HX with HG
      imodintro
      isplitl [HP] <;> iassumption)
    (hglob := setUp m)
    (hA := fun _ w => w.elim0) (hpf := fun _ k => k.elim0)
    (X := before m) (Y := kept m) (Z := fun _ => iprop(emp))
    (hX := start_intro m ρ) (hin := enter m) (hout := leave m)
    (QY := fun c s => (∀ sm : SemLoc sig, sm.isScoped .tc = false → s.sem ((c.tc : Thread nD τ), sm) = 0) ∧ Ends m c s)
    (hY := ends_read m)
    (hQ := fun _ h hs => ⟨fun c => (h c).2.2.2, sem_eq_zero hs fun c => (h c).2.2.1⟩)

end Cert.KernelIdeal.Run

end
-- ==== Proof.Value.lean ====
/- What each device ends with, over the extended reals, read at an index: the product's entry times its logistic
   function, the four quarters of the contraction put back together. -/
module

public import proofs.«01_k».proof.Proof.Split
public import Idealize.ShloMosaic.Lib.MatmulPlain
public import Idealize.ShloMosaic.Lib.ValueIdx
public import Idealize.ShloMosaic.Lib.IdealHost

@[expose] public section

noncomputable section

namespace Cert.KernelIdeal.Run

open Idealize.ShloMosaic Idealize.ShloMosaic.TcCoe
open Idealize.ShloMosaic.ValueIdx
open Cert.KernelIdeal Cert.KernelIdeal.Gen

/-! ### Where the windows lie -/

/-- Where the window of `w` for quarter `k` of block `b` of part `c` starts. -/
theorem wOff_eq (d : Dev nD) (c b k : Fin 4) :
    wOff d c b k = ![1024 * k.val, (d.val + 1 + c.val) % 4 * 2048 + 512 * b.val] := by
  funext a; revert d c b k a; decide +kernel

/-- The column of `w` that column `j` of block `b` of part `c` is on device `p`. -/
def colOf (p : Dev nD) (c b : Fin 4) (j : Fin 512) : Fin 8192 :=
  ⟨(p.val + 1 + c.val) % 4 * 2048 + 512 * b.val + j.val, by omega⟩

/-- Row `k` of quarter `q` of the contraction. -/
def rowOf (q : Fin 4) (k : Fin 1024) : Fin 4096 := ⟨1024 * q.val + k.val, by omega⟩

variable (m : (ℓ : Loc nD τ sig) → Buf (Elt Ideal) ℓ)

/-- Quarter `q` of the rows at an index. -/
theorem xVal_apply (p : Dev nD) (q : Fin 4) (i k : Fin 1024) :
    xVal m p q (ix2 i k) = mx m p (ix2 i (rowOf q k)) := by
  show mx m p ((xRect q).emb (ix2 i k)) = _
  congr 1
  funext a; apply Fin.ext
  match a with
  | ⟨0, _⟩ => show 0 + 1 * i.val = i.val; omega
  | ⟨1, _⟩ => show 1024 * q.val + 1 * k.val = 1024 * q.val + k.val; omega

/-- A window of `w` at an index. -/
theorem wVal_apply (p : Dev nD) (c b k : Fin 4) (i : Fin 1024) (j : Fin 512) :
    wVal m p c b k (ix2 i j) = mw m p (ix2 (rowOf k i) (colOf p c b j)) := by
  show mw m p ((wRect p c b k).emb (ix2 i j)) = _
  congr 1
  funext a; apply Fin.ext
  match a with
  | ⟨0, _⟩ =>
    show wOff p c b k 0 + 1 * i.val = 1024 * k.val + i.val
    rw [wOff_eq]
    show 1024 * k.val + 1 * i.val = 1024 * k.val + i.val
    omega
  | ⟨1, _⟩ =>
    show wOff p c b k 1 + 1 * j.val = (p.val + 1 + c.val) % 4 * 2048 + 512 * b.val + j.val
    rw [wOff_eq]
    show (p.val + 1 + c.val) % 4 * 2048 + 512 * b.val + 1 * j.val = _
    omega

/-! ### The product -/

/-- The product of entry `k` of row `i` of `x` and entry `k` of column `j` of `w`. -/
def term (x : (⟨2, ![1024, 4096]⟩ : Shape).Idx → EReal) (w : (⟨2, ![4096, 8192]⟩ : Shape).Idx → EReal) (i : Fin 1024)
    (j : Fin 8192) (k : Fin 4096) : EReal :=
  x (ix2 i k) * w (ix2 k j)

/-- Row `i` of `x` times column `j` of `w`. -/
def entry (x : (⟨2, ![1024, 4096]⟩ : Shape).Idx → EReal) (w : (⟨2, ![4096, 8192]⟩ : Shape).Idx → EReal) (i : Fin 1024)
    (j : Fin 8192) : EReal :=
  ∑ k : Fin 4096, term x w i j k

/-- The four quarters' sums are the whole sum. -/
theorem sum_quarters (f : Fin 4096 → EReal) :
    ∑ k, f (rowOf 0 k) + ∑ k, f (rowOf 1 k) + ∑ k, f (rowOf 2 k) + ∑ k, f (rowOf 3 k) = ∑ k, f k := by
  have h : ∑ q : Fin 4, ∑ k, f (rowOf q k) = ∑ k, f k := by
    rw [← Fintype.sum_prod_type' (f := fun q k => f (rowOf q k))]
    refine Fintype.sum_equiv (finProdFinEquiv (m := 4) (n := 1024)) _ _ fun qk => congrArg f (Fin.ext ?_)
    show 1024 * qk.1.val + qk.2.val = qk.2.val + 1024 * qk.1.val
    omega
  rw [← h, Fin.sum_univ_four]

/-- The product of a quarter at an index is a sum of 1024 products. -/
theorem dotV_apply (xv : FVec Ideal S1024x1024 .bf16) (wv : FVec Ideal S1024x512 .f32) (i : Fin 1024) (j : Fin 512) :
    dotV xv wv (ix2 i j) = ∑ k : Fin 1024, xv (ix2 i k) * wv (ix2 k j) := by
  have h := Ideal.matmul_plain_apply (M := 1024) (K := 1024) (N := 512) none xv (truncf .bf16 wv bitsLt_bf16_f32)
    (constant S1024x512 .f32 0x00000000#32) i j
  refine Eq.trans (show dotV xv wv (ix2 i j) = _ from h) ?_
  rw [constant_apply, Ideal.ofBits_zero_f32, zero_add]
  rfl

/-- A block before silu, at an index, is the entry of the product of the device's rows and `w`. -/
theorem yVal_apply (p : Dev nD) (c b : Fin 4) (i : Fin 1024) (j : Fin 512) :
    yVal m p c b (ix2 i j) = entry (mx m p) (mw m p) i (colOf p c b j) := by
  unfold yVal entry
  rw [addf_apply, addf_apply, addf_apply, dotV_apply, dotV_apply, dotV_apply, dotV_apply]
  simp only [xVal_apply, wVal_apply]
  exact sum_quarters (term (mx m p) (mw m p) i (colOf p c b j))

/-! ### The result -/

/-- `y` times its logistic function. -/
def silu (y : EReal) : EReal := y * Ideal.logistic y

/-- Column `j` of device `d`'s part of the result, as a column of the whole. -/
def colAt (d : Dev nD) (j : Fin 2048) : Fin 8192 := ⟨d.val * 2048 + j.val, by have := d.isLt; have : nD = 4 := rfl; omega⟩

/-- The result on device `d` at row `i` of device `p`'s rows. -/
theorem outVal_apply (d p : Dev nD) (i : Fin 1024) (j : Fin 2048) :
    outVal m d (ix3 p i j) = silu (entry (mx m p) (mw m p) i (colAt d j)) := by
  have hd : d.val < 4 := d.isLt
  have hp : p.val < 4 := p.isLt
  unfold outVal
  by_cases h : p = d
  · subst h
    rw [if_pos rfl]
    show silu (yVal m p 3 _ (ix2 i _)) = _
    rw [yVal_apply]
    refine congrArg (fun C => silu (entry (mx m p) (mw m p) i C)) (Fin.ext ?_)
    show (p.val + 1 + 3) % 4 * 2048 + 512 * (j.val / 512) + j.val % 512 = p.val * 2048 + j.val
    omega
  · rw [if_neg fun e => h (Fin.ext e)]
    show silu (yVal m (srcOf d (partOf d p)) (far (partOf d p)) _ (ix2 i _)) = _
    rw [srcOf_partOf d p h, yVal_apply]
    refine congrArg (fun C => silu (entry (mx m p) (mw m p) i C)) (Fin.ext ?_)
    have hne : p.val ≠ d.val := fun e => h (Fin.ext e)
    show (p.val + 1 + (d.val + 3 - p.val) % 4 % 3) % 4 * 2048 + 512 * (j.val / 512) + j.val % 512 = d.val * 2048 + j.val
    omega

/-! ### The quotient -/

/-- The exponential is nonnegative on the extended reals. -/
theorem exp_nonneg (y : EReal) : 0 ≤ Ideal.exp y := by
  induction y using EReal.rec with
  | bot => exact le_rfl
  | coe r => exact EReal.coe_nonneg.mpr (Real.exp_pos r).le
  | top => exact le_top

/-- `y` times its logistic function is the quotient of `y` by `1 + e⁻ʸ`, infinities included. -/
theorem silu_eq (y : EReal) : silu y = Ideal.div y (1 + Ideal.exp (-y)) := by
  have h : (1 : EReal) + Ideal.exp (-y) ≠ 0 :=
    ((zero_lt_one' EReal).trans_le (le_add_of_nonneg_right (exp_nonneg _))).ne'
  unfold silu Ideal.logistic Ideal.div
  rw [if_neg h, if_neg h, one_mul]

end Cert.KernelIdeal.Run

end
-- ==== Proof.Reference.lean ====
/- The reference's result over the extended reals, read at an index, and the value claim: each device ends with its
   columns of it. -/
module

public import proofs.«01_k».proof.Proof.Value
public import proofs.«01_k».proof.Proof.Gen.ReferenceIdeal
public import Idealize.ShloMosaic.Lib.Pipeline.Value
public import Idealize.ShloMosaic.Lib.StackMember
public import Idealize.ShloMosaic.Lib.Layout

@[expose] public section

noncomputable section

namespace Cert.ReferenceIdeal.Result

open Idealize.ShloMosaic Idealize.ShloMosaic.ValueIdx Idealize.ShloMosaic.StackMember
open Cert.ReferenceIdeal Cert.ReferenceIdeal.Gen

/-- The product of the whole arrays. -/
def product (x : FVec Ideal S4096x4096 .f32) (w : FVec Ideal S4096x8192 .f32) : FVec Ideal S4096x8192 .f32 :=
  Host.dotGeneral dot_S4096x4096_S4096x8192_S4096x8192_1_0_0_1_n_n none x w

/-- The reference's result. -/
def result (x : FVec Ideal S4096x4096 .f32) (w : FVec Ideal S4096x8192 .f32) : FVec Ideal S4x1024x8192 .f32 :=
  shapeCast _ (Host.divf (product x w) (addf (broadcastInDim S4096x8192 ![] bcast_S_S4096x8192 (constant S_ .f32 0x3F800000#32))
    (Host.exp (Host.negf (product x w))))) shapeCasts_S4096x8192_S4x1024x8192

/-- Row `i` of group `p` of the 4096 rows. -/
def rowAt (p : Fin 4) (i : Fin 1024) : Fin 4096 := ⟨p.val * 1024 + i.val, by omega⟩

/-- The product of the whole arrays at an index. -/
theorem product_apply (x : FVec Ideal S4096x4096 .f32) (w : FVec Ideal S4096x8192 .f32) (i : Fin 4096) (j : Fin 8192) :
    product x w (ix2 i j) = ∑ k : Fin 4096, x (ix2 i k) * w (ix2 k j) :=
  dotGeneral_plain_apply (m := 4096) (k := 4096) (n := 8192) none x w i j

/-- Splitting the rows in four groups of 1024 reads row `i` of group `p`. -/
theorem grouped_apply {α : Type} (y : S4096x8192.Idx → α) (p : Fin 4) (i : Fin 1024) (j : Fin 8192) :
    shapeCast S4x1024x8192 y shapeCasts_S4096x8192_S4x1024x8192 (ix3 p i j) = y (ix2 (rowAt p i) j) := by
  refine shapeCast_apply y _ _ _ ?_
  rw [Shape.rowMajor_val_two, Shape.rowMajor_val_three]
  show (p.val * 1024 + i.val) * 8192 + j.val = (p.val * 1024 + i.val) * 8192 + j.val
  rfl

/-- The reference's result at an index is the quotient of the product's entry. -/
theorem result_apply (x : FVec Ideal S4096x4096 .f32) (w : FVec Ideal S4096x8192 .f32) (p : Fin 4) (i : Fin 1024) (j : Fin 8192) :
    result x w (ix3 p i j) = Ideal.div (product x w (ix2 (rowAt p i) j)) (1 + Ideal.exp (-product x w (ix2 (rowAt p i) j))) := by
  unfold result
  rw [grouped_apply]
  show Ideal.div _ (Ideal.ofBits .f32 0x3F800000#32 + Ideal.exp (-product x w (ix2 (rowAt p i) j))) = _
  rw [Ideal.ofBits_one_f32]

open Cert.KernelIdeal.Run in
/-- A device's entry of the product is the whole product's, where the device holds its block of the rows. -/
theorem entry_block (x : FVec Ideal S4096x4096 .f32) (w : FVec Ideal S4096x8192 .f32) (p : Fin 4) (i : Fin 1024) (j : Fin 8192) :
    entry (Layout.block ⟨2, ![1024, 4096]⟩ ⟨2, ![4096, 4096]⟩ 0 4 p x) w i j = product x w (ix2 (rowAt p i) j) := by
  rw [product_apply]
  refine Finset.sum_congr rfl fun k _ => ?_
  unfold term
  rw [Layout.block_apply]
  refine congrArg (fun t => x t * w (ix2 k j)) ?_
  funext a; apply Fin.ext
  match a with
  | ⟨0, _⟩ => rfl
  | ⟨1, _⟩ => rfl

/-- Where a device's columns lie in the whole result. -/
theorem idx_columns (h : Layout.Tiles ⟨3, ![4, 1024, 2048]⟩ ⟨3, ![4, 1024, 8192]⟩ 2 4) (c p : Fin 4) (i : Fin 1024)
    (j : Fin 2048) : h.idx c (ix3 p i j) = ix3 p i (Cert.KernelIdeal.Run.colAt c j) := by
  funext a; apply Fin.ext
  match a with
  | ⟨0, _⟩ => rfl
  | ⟨1, _⟩ => rfl
  | ⟨2, _⟩ => rfl

section
open Cert.KernelIdeal.Run

variable (m : (ℓ : Loc Cert.KernelIdeal.nD Cert.KernelIdeal.τ Cert.KernelIdeal.sig) → Buf (Elt Ideal) ℓ)
  (x : FVec Ideal S4096x4096 .f32) (w : FVec Ideal S4096x8192 .f32)
  (hx : ∀ c, mx m c = Layout.block ⟨2, ![1024, 4096]⟩ ⟨2, ![4096, 4096]⟩ 0 4 c x) (hw : ∀ c, mw m c = w)
include hx hw

/-- What device `c` ends with at an index is `y · logistic y` for the entry `y` of the whole product. -/
theorem outVal_product (c : Dev Cert.KernelIdeal.nD) (p : Fin 4) (i : Fin 1024) (j : Fin 2048) :
    outVal m c (ix3 p i j) = silu (product x w (ix2 (rowAt p i) (colAt c j))) := by
  rw [outVal_apply m c p, hx, hw, entry_block]

/-- Each device ends with its columns of the reference's result. -/
theorem outVal_eq (c : Dev Cert.KernelIdeal.nD) :
    outVal m c = Layout.block ⟨3, ![4, 1024, 2048]⟩ ⟨3, ![4, 1024, 8192]⟩ 2 4 c (result x w) := by
  funext t
  obtain ⟨p, i, j, rfl⟩ : ∃ (p : Fin 4) (i : Fin 1024) (j : Fin 2048), t = ix3 p i j := ⟨t 0, t 1, t 2, eq_ix3 t⟩
  rw [Layout.block_apply, idx_columns, result_apply, outVal_product m x w hx hw, silu_eq]

end

end Cert.ReferenceIdeal.Result

end
-- ==== Proof.Clipped.lean ====
/- The reference with the exponent's argument clipped: where the product's entry is between the two bounds the clipping
   changes nothing, and each device ends with its columns of that result too. -/
module

public import proofs.«01_k».proof.Proof.Reference
public import proofs.«01_k».proof.Proof.Gen.ClippedIdeal
public import proofs.«01_k».proof.Proof.Gen.On_within_clip

@[expose] public section

noncomputable section

namespace Cert.ClippedIdeal.Result

open Idealize.ShloMosaic Idealize.ShloMosaic.ValueIdx
open Cert.ClippedIdeal Cert.ClippedIdeal.Gen
open Cert.ReferenceIdeal.Result (product rowAt grouped_apply idx_columns outVal_product)

/-- The lower bound of the clipping, `-60`. -/
def lower : EReal := Ideal.ofBits .f32 0xC2700000#32
/-- The upper bound of the clipping, `60`. -/
def upper : EReal := Ideal.ofBits .f32 0x42700000#32

/-- The clipped reference's result. -/
def result (x : FVec Ideal S4096x4096 .f32) (w : FVec Ideal S4096x8192 .f32) : FVec Ideal S4x1024x8192 .f32 :=
  shapeCast _ (Host.divf (product x w) (addf (broadcastInDim S4096x8192 ![] bcast_S_S4096x8192 (constant S_ .f32 0x3F800000#32))
    (Host.exp (Host.negf (minimumf (maximumf (product x w)
      (broadcastInDim S4096x8192 ![] bcast_S_S4096x8192 (constant S_ .f32 0xC2700000#32)))
      (broadcastInDim S4096x8192 ![] bcast_S_S4096x8192 (constant S_ .f32 0x42700000#32)))))))
    shapeCasts_S4096x8192_S4x1024x8192

/-- The clipped reference's result at an index. -/
theorem result_apply (x : FVec Ideal S4096x4096 .f32) (w : FVec Ideal S4096x8192 .f32) (p : Fin 4) (i : Fin 1024) (j : Fin 8192) :
    result x w (ix3 p i j) = Ideal.div (product x w (ix2 (rowAt p i) j))
      (1 + Ideal.exp (-min (max (product x w (ix2 (rowAt p i) j)) lower) upper)) := by
  unfold result
  refine (grouped_apply _ p i j).trans ?_
  show Ideal.div _ (Ideal.ofBits .f32 0x3F800000#32
    + Ideal.exp (-min (max (product x w (ix2 (rowAt p i) j)) lower) upper)) = _
  rw [Ideal.ofBits_one_f32]

/-- The mask is set only where the product's entry is between the two bounds. -/
theorem within_of_mask (x : FVec Ideal S4096x4096 .f32) (w : FVec Ideal S4096x8192 .f32) (p : Fin 4) (i : Fin 1024) (j : Fin 8192)
    (h : Cert.On_within_clip.fn (F := Ideal) x w (ix3 p i j) = 1#1) :
    lower ≤ product x w (ix2 (rowAt p i) j) ∧ product x w (ix2 (rowAt p i) j) ≤ upper := by
  have e : Cert.On_within_clip.fn (F := Ideal) x w (ix3 p i j)
      = BitVec.ofBool (decide (lower ≤ product x w (ix2 (rowAt p i) j)))
        &&& BitVec.ofBool (decide (product x w (ix2 (rowAt p i) j) ≤ upper)) :=
    grouped_apply (andi (cmpf .oge (product x w) (broadcastInDim S4096x8192 ![] bcast_S_S4096x8192 (constant S_ .f32 0xC2700000#32)))
      (cmpf .ole (product x w) (broadcastInDim S4096x8192 ![] bcast_S_S4096x8192 (constant S_ .f32 0x42700000#32)))) p i j
  rw [e] at h
  by_cases h1 : lower ≤ product x w (ix2 (rowAt p i) j) <;> by_cases h2 : product x w (ix2 (rowAt p i) j) ≤ upper
  · exact ⟨h1, h2⟩
  all_goals simp [h1, h2] at h

open Cert.KernelIdeal.Run in
/-- Where the mask is set, each device ends with its columns of the clipped reference's result. -/
theorem outVal_eq_on (m : (ℓ : Loc Cert.KernelIdeal.nD Cert.KernelIdeal.τ Cert.KernelIdeal.sig) → Buf (Elt Ideal) ℓ)
    (x : FVec Ideal S4096x4096 .f32) (w : FVec Ideal S4096x8192 .f32)
    (hx : ∀ c, mx m c = Layout.block ⟨2, ![1024, 4096]⟩ ⟨2, ![4096, 4096]⟩ 0 4 c x) (hw : ∀ c, mw m c = w)
    (c : Dev Cert.KernelIdeal.nD) (t : (⟨3, ![4, 1024, 2048]⟩ : Shape).Idx)
    (ht : Layout.block ⟨3, ![4, 1024, 2048]⟩ ⟨3, ![4, 1024, 8192]⟩ 2 4 c (Cert.On_within_clip.fn (F := Ideal) x w) (by decide) t = 1#1) :
    outVal m c t = Layout.block ⟨3, ![4, 1024, 2048]⟩ ⟨3, ![4, 1024, 8192]⟩ 2 4 c (result x w) (by decide) t := by
  obtain ⟨p, i, j, rfl⟩ : ∃ (p : Fin 4) (i : Fin 1024) (j : Fin 2048), t = ix3 p i j := ⟨t 0, t 1, t 2, eq_ix3 t⟩
  rw [Layout.block_apply, idx_columns] at ht ⊢
  obtain ⟨h1, h2⟩ := within_of_mask x w p i _ ht
  rw [result_apply, outVal_product m x w hx hw, silu_eq, max_eq_left h1, min_eq_left h2]

end Cert.ClippedIdeal.Result

end
-- ==== Proof.lean ====
/- The proof of the certificate's claims. The kernel's run on the mesh (Proof/Run.lean) is written once, over any float
   values, for the text that the kernel and its idealization share: each frame is that run with the values dropped. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_within_clip
public import proofs.«01_k».proof.Proof.Run
public import proofs.«01_k».proof.Proof.Reference
public import proofs.«01_k».proof.Proof.Clipped
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.ClippedIdeal.Facts := Cert.ClippedIdeal.Gen.facts
instance : Cert.On_within_clip.Facts := Cert.On_within_clip.Gen.facts

/-- The idealized kernel terminates, leaves its inputs as they were and every counter at zero. -/
theorem frame_kernelIdeal : Cert.quiescent_KernelIdeal := fun m ρ _ =>
  (θ_run Cert.KernelIdeal.defs _ _).mono (fun _ h => ⟨fun c => ⟨(h.1 c).2.1, (h.1 c).2.2⟩, h.2⟩)
    (Cert.KernelIdeal.Run.run_main (F := Ideal) m ρ)

set_option maxRecDepth 65536 in
/-- The kernel on words terminates, leaves its inputs as they were and every counter at zero. -/
theorem frame_kernel : Cert.quiescent_Kernel := fun m ρ _ =>
  (θ_run Cert.KernelIdeal.defs _ _).mono (fun _ h => ⟨fun c => ⟨(h.1 c).2.1, (h.1 c).2.2⟩, h.2⟩)
    (Cert.KernelIdeal.Run.run_main (F := Bits) m ρ)

/-- The reference terminates and leaves its inputs as they were; it has no counter. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems rfl r.2⟩)
    (Cert.ReferenceIdeal.Value.run (F := Ideal) m ρ)

/-- Over the extended reals each device ends with its columns of the reference's result. -/
theorem algebraic : Cert.algebraic_KernelIdeal_ReferenceIdeal := fun m ρ m' ρ' _ h =>
  ⟨Cert.ReferenceIdeal.Result.result _ _,
    (θ_run Cert.KernelIdeal.defs _ _).mono
      (fun _ hr c => ⟨(hr.1 c).1.trans (Cert.ReferenceIdeal.Result.outVal_eq m _ _ (fun c => (h c).1) (fun c => (h c).2) c),
        (hr.1 c).2⟩)
      (Cert.KernelIdeal.Run.run_main (F := Ideal) m ρ),
    (θ_run Cert.ReferenceIdeal.defs _ _).mono (fun _ hr => hr 0) (Cert.ReferenceIdeal.Value.run (F := Ideal) m' ρ')⟩

/-- The clipped reference terminates and leaves its inputs as they were; it has no counter. -/
theorem frame_clipped : Cert.quiescent_ClippedIdeal := fun m ρ _ =>
  (θ_run Cert.ClippedIdeal.defs _ _).mono
    (fun r h => ⟨fun c => ⟨(h c).2.1, (h c).2.2⟩, sem_eq_zero_of_no_sems rfl r.2⟩)
    (Cert.ClippedIdeal.Value.run (F := Ideal) m ρ)

/-- Over the extended reals each device ends with its columns of the clipped reference's result, wherever the product's
    entry is between the bounds of the clipping. -/
theorem algebraic_clipped : Cert.algebraic_KernelIdeal_ClippedIdeal_on_within_clip := fun m ρ m' ρ' _ h =>
  ⟨Cert.ClippedIdeal.Result.result _ _,
    (θ_run Cert.KernelIdeal.defs _ _).mono
      (fun _ hr c => ⟨fun t ht => (congrFun (hr.1 c).1 t).trans
          (Cert.ClippedIdeal.Result.outVal_eq_on m _ _ (fun c => (h c).1) (fun c => (h c).2) c t ht),
        (hr.1 c).2⟩)
      (Cert.KernelIdeal.Run.run_main (F := Ideal) m ρ),
    (θ_run Cert.ClippedIdeal.defs _ _).mono (fun _ hr => ⟨fun t _ => congrFun (hr 0).1 t, (hr 0).2⟩)
      (Cert.ClippedIdeal.Value.run (F := Ideal) m' ρ')⟩

/-- All the claims. -/
theorem claim : Cert.Claim := ⟨Cert.Kernel.Gen.facts, Cert.KernelIdeal.Gen.facts, Cert.ReferenceIdeal.Gen.facts,
  Cert.ClippedIdeal.Gen.facts, Cert.On_within_clip.Gen.facts,
  frame_kernel, frame_kernelIdeal, frame_reference, frame_clipped, trivial, algebraic, algebraic_clipped⟩

end Cert.Proof

end
